-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_keys_real_KernelIdeal [hPre_queries_keys_real_KernelIdeal : Cert.Pre_queries_keys_real_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_queries_keys_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_queries_keys_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_queries_keys_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_keys_real_ReferenceIdeal [hPre_queries_keys_real_ReferenceIdeal : Cert.Pre_queries_keys_real_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_keys_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_queries_keys_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_queries_keys_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_queries_keys_real_KernelIdeal [hKernelIdeal : Cert.KernelIdeal.Facts] [hPre_queries_keys_real_KernelIdeal : Cert.Pre_queries_keys_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_keys_real_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_queries_keys_real_ReferenceIdeal [hReferenceIdeal : Cert.ReferenceIdeal.Facts] [hPre_queries_keys_real_ReferenceIdeal : Cert.Pre_queries_keys_real_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_keys_real_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_queries_keys_real_KernelIdeal [hKernelIdeal : Cert.KernelIdeal.Facts] [hReferenceIdeal : Cert.ReferenceIdeal.Facts] [hPre_queries_keys_real_KernelIdeal : Cert.Pre_queries_keys_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_keys_real_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_queries_keys_real_KernelIdeal : Cert.Pre_queries_keys_real_KernelIdeal.Facts) (hPre_queries_keys_real_ReferenceIdeal : Cert.Pre_queries_keys_real_ReferenceIdeal.Facts),
    quiescent_Kernel (hKernel := hKernel)
    ∧ quiescent_KernelIdeal (hKernelIdeal := hKernelIdeal)
    ∧ quiescent_KernelIdeal_pre_queries_keys_real_KernelIdeal (hKernelIdeal := hKernelIdeal) (hPre_queries_keys_real_KernelIdeal := hPre_queries_keys_real_KernelIdeal)
    ∧ quiescent_ReferenceIdeal (hReferenceIdeal := hReferenceIdeal)
    ∧ quiescent_ReferenceIdeal_pre_queries_keys_real_ReferenceIdeal (hReferenceIdeal := hReferenceIdeal) (hPre_queries_keys_real_ReferenceIdeal := hPre_queries_keys_real_ReferenceIdeal)
    ∧ preserves_Kernel_KernelIdeal
    ∧ algebraic_KernelIdeal_ReferenceIdeal_pre_queries_keys_real_KernelIdeal (hKernelIdeal := hKernelIdeal) (hReferenceIdeal := hReferenceIdeal) (hPre_queries_keys_real_KernelIdeal := hPre_queries_keys_real_KernelIdeal)
-- ==== Pre_queries_keys_real_KernelIdeal.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x1024 .bf16) (main_arg2 : FVec F S2x128x4x64 .bf16) (main_arg3 : FVec F S2x128x4x64 .bf16) (main_arg4 : FVec F S1024x512 .bf16) : IVec S2x128x512 1 × IVec S512x1024 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_queries_keys_real_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x16x64 : S_.BroadcastsInDim S2x128x16x64 (![] : Fin 0 → Fin S2x128x16x64.rank)

variable [Facts]

def fn {F : FTy → Type} [FloatOps F] (main_arg0 : FVec F S2x128x512 .bf16) (main_arg1 : FVec F S512x1024 .bf16) (main_arg2 : FVec F S2x128x16x64 .bf16) (main_arg3 : FVec F S2x128x16x64 .bf16) (main_arg4 : FVec F S1024x512 .bf16) : IVec S2x128x512 1 × IVec S512x1024 1 × IVec S2x128x16x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S2x128x16x64 .bf16 := Host.absf main_arg2
  let main_cst_1 : FVec F S_ .bf16 := constant S_ .bf16 0x7F80#16
  let main_v7 : FVec F S2x128x16x64 .bf16 := broadcastInDim S2x128x16x64 ![] bcast_S_S2x128x16x64 main_cst_1
  let main_v8 : IVec S2x128x16x64 1 := cmpf .olt main_v6 main_v7
  (main_v2, main_v5, main_v8)
-- ==== Kernel.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩
abbrev S512x256 : Shape := ⟨2, ![512, 256]⟩
abbrev S256x512 : Shape := ⟨2, ![256, 512]⟩
abbrev S2x4x128x64 : Shape := ⟨4, ![2, 4, 128, 64]⟩
abbrev S4x4x64x512 : Shape := ⟨4, ![4, 4, 64, 512]⟩
abbrev S8 : Shape := ⟨1, ![8]⟩
abbrev S2x512x256 : Shape := ⟨3, ![2, 512, 256]⟩
abbrev S1x1x128x64 : Shape := ⟨4, ![1, 1, 128, 64]⟩
abbrev S128x64 : Shape := ⟨2, ![128, 64]⟩
abbrev S1x128x64 : Shape := ⟨3, ![1, 128, 64]⟩
abbrev S256x256 : Shape := ⟨2, ![256, 256]⟩
abbrev S64x256 : Shape := ⟨2, ![64, 256]⟩
abbrev S1x512x256 : Shape := ⟨3, ![1, 512, 256]⟩
abbrev S64x512 : Shape := ⟨2, ![64, 512]⟩
abbrev S1x1x64x512 : Shape := ⟨4, ![1, 1, 64, 512]⟩
abbrev S1 : Shape := ⟨1, ![1]⟩
abbrev S1x64x512 : Shape := ⟨3, ![1, 64, 512]⟩

abbrev nBuf : Space → Nat
  | .hbm => 32
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x4x64, .bf16⟩
  | .hbm, ⟨3, _⟩ => ⟨S2x128x4x64, .bf16⟩
  | .hbm, ⟨4, _⟩ => ⟨S1024x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x4x128x64, .bf16⟩
  | .hbm, ⟨30, _⟩ => ⟨S2x4x128x64, .bf16⟩
  | .hbm, ⟨31, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x4x128x64, .bf16⟩
  | .local _ .vmem, ⟨3, _⟩ => ⟨S2x4x128x64, .bf16⟩
  | .local _ .vmem, ⟨4, _⟩ => ⟨S256x512, .bf16⟩
  | .local _ .vmem, ⟨5, _⟩ => ⟨S2x128x512, .bf16⟩
  | .local _ .vmem, ⟨6, _⟩ => ⟨S4x4x64x512, .bf16⟩
  | .local _ .vmem, ⟨7, _⟩ => ⟨S2x512x256, .bf16⟩
  | .local _ .vmem, ⟨8, _⟩ => ⟨S2x512x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_3 : BitVec 32 := 1#32
  let v9 : BitVec 32 := Scalar.muli v6 c1_i32_3
  let v10 : BitVec 32 := Scalar.addi c0_i32 v9
  v10.toNat
def k0_dev2 (d0 : Dev nD) : Nat :=
  let c0_i32_6 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_5 : BitVec 32 := 1#32
  let v11 : BitVec 32 := Scalar.muli v7 c1_i32_5
  let v12 : BitVec 32 := Scalar.addi c0_i32_6 v11
  v12.toNat
def k0_dev3 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_159 : BitVec 32 := 1#32
  let v183 : BitVec 32 := Scalar.muli v6 c1_i32_159
  let v184 : BitVec 32 := Scalar.addi c0_i32_160 v183
  v184.toNat
def k0_dev4 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_185 : BitVec 32 := 1#32
  let v211 : BitVec 32 := Scalar.muli v6 c1_i32_185
  let v212 : BitVec 32 := Scalar.addi c0_i32_186 v211
  v212.toNat
def k0_dev5 (d0 : Dev nD) : Nat :=
  let c0_i32_212 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_211 : BitVec 32 := 1#32
  let v239 : BitVec 32 := Scalar.muli v7 c1_i32_211
  let v240 : BitVec 32 := Scalar.addi c0_i32_212 v239
  v240.toNat
def k0_dev6 (d0 : Dev nD) : Nat :=
  let c0_i32_238 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_237 : BitVec 32 := 1#32
  let v267 : BitVec 32 := Scalar.muli v7 c1_i32_237
  let v268 : BitVec 32 := Scalar.addi c0_i32_238 v267
  v268.toNat
def k0_dev7 (d0 : Dev nD) : Nat :=
  let c0_i32_285 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_284 : BitVec 32 := 1#32
  let v299 : BitVec 32 := Scalar.muli v7 c1_i32_284
  let v300 : BitVec 32 := Scalar.addi c0_i32_285 v299
  v300.toNat
def k0_dev8 (d0 : Dev nD) : Nat :=
  let c0_i32_331 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.subi c3_i32 v2
  let c1_i32_330 : BitVec 32 := 1#32
  let v331 : BitVec 32 := Scalar.muli v7 c1_i32_330
  let v332 : BitVec 32 := Scalar.addi c0_i32_331 v331
  v332.toNat
def k0_dev9 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_376 : BitVec 32 := 1#32
  let v363 : BitVec 32 := Scalar.muli v6 c1_i32_376
  let v364 : BitVec 32 := Scalar.addi c0_i32_377 v363
  v364.toNat
def k0_dev10 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_422 : BitVec 32 := 1#32
  let v395 : BitVec 32 := Scalar.muli v6 c1_i32_422
  let v396 : BitVec 32 := Scalar.addi c0_i32_423 v395
  v396.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 63
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S2x16x128x128, .f32⟩
  | .hbm, ⟨20, _⟩ => ⟨S2x16x128x128, .bf16⟩
  | .hbm, ⟨21, _⟩ => ⟨S2x16x128x128, .f32⟩
  | .hbm, ⟨22, _⟩ => ⟨S_, .f32⟩
  | .hbm, ⟨23, _⟩ => ⟨S2x16x128x128, .f32⟩
  | .hbm, ⟨24, _⟩ => ⟨S2x16x128x128, .f32⟩
  | .hbm, ⟨25, _⟩ => ⟨S1x1x128x128, .i1⟩
  | .hbm, ⟨26, _⟩ => ⟨S_, .f32⟩
  | .hbm, ⟨27, _⟩ => ⟨S_, .f32⟩
  | .hbm, ⟨28, _⟩ => ⟨S2x16x128x128, .i1⟩
  | .hbm, ⟨29, _⟩ => ⟨S2x16x128x128, .f32⟩
  | .hbm, ⟨30, _⟩ => ⟨S2x16x128x128, .f32⟩
  | .hbm, ⟨31, _⟩ => ⟨S_, .f32⟩
  | .hbm, ⟨32, _⟩ => ⟨S2x16x128, .f32⟩
  | .hbm, ⟨33, _⟩ => ⟨S2x16x128x1, .f32⟩
  | .hbm, ⟨34, _⟩ => ⟨S2x16x128x128, .f32⟩
  | .hbm, ⟨35, _⟩ => ⟨S2x16x128x128, .f32⟩
  | .hbm, ⟨36, _⟩ => ⟨S2x16x128x128, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x16x128, .f32⟩
  | .hbm, ⟨42, _⟩ => ⟨S2x16x128x1, .f32⟩
  | .hbm, ⟨43, _⟩ => ⟨S_, .f32⟩
  | .hbm, ⟨44, _⟩ => ⟨S_, .f32⟩
  | .hbm, ⟨45, _⟩ => ⟨S2x16x128x1, .i1⟩
  | .hbm, ⟨46, _⟩ => ⟨S2x16x128x1, .f32⟩
  | .hbm, ⟨47, _⟩ => ⟨S2x16x128x1, .f32⟩
  | .hbm, ⟨48, _⟩ => ⟨S2x16x128x128, .f32⟩
  | .hbm, ⟨49, _⟩ => ⟨S2x16x128x128, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x16x128x128, .i1⟩
  | .hbm, ⟨54, _⟩ => ⟨S2x16x128x128, .f32⟩
  | .hbm, ⟨55, _⟩ => ⟨S2x16x128x128, .f32⟩
  | .hbm, ⟨56, _⟩ => ⟨S2x128x16x64, .f32⟩
  | .hbm, ⟨57, _⟩ => ⟨S2x16x64x128, .f32⟩
  | .hbm, ⟨58, _⟩ => ⟨S2x128x16x64, .f32⟩
  | .hbm, ⟨59, _⟩ => ⟨S2x128x1024, .f32⟩
  | .hbm, ⟨60, _⟩ => ⟨S1024x512, .f32⟩
  | .hbm, ⟨61, _⟩ => ⟨S2x128x512, .f32⟩
  | .hbm, ⟨62, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Slots.lean ====
/-
# The slots of the exchange buffer

The exchange buffer of a device is `bf16[4, 4, 64, 512]`: four rows of four slots, one slot per chunk
of sixty-four result rows. Row 0 holds the device's own partial result, row 1 the partial result the
first partner sends, row 2 the sum of these two, row 3 the sum the second partner sends.

A slot is held apart from the others: its elements, at contents `spread v` where `v` is the value of
the slot read as `bf16[1, 1, 64, 512]`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots as views -/

/-- The exchange buffer. -/
abbrev cM : Memref sig .tc .vmem S4x4x64x512 .bf16 := Memref.whole cc0_scratch0

/-- Slot `ch` of row `r` as a rectangle of the buffer. -/
abbrev slotR (r ch : ℕ) (inb : ∀ a, (![r, ch, 0, 0] : Fin 4 → ℕ) a + S1x1x64x512.size a ≤ S4x4x64x512.size a) : Rect S4x4x64x512 :=
  Rect.unit (s := S4x4x64x512) ![r, ch, 0, 0] S1x1x64x512.size inb

/-- Slot `ch` of row `r` as the view of sixty-four rows a transfer copies. -/
abbrev slotM (r ch : ℕ) (inb : ∀ a, (![r, ch, 0, 0] : Fin 4 → ℕ) a + S1x1x64x512.size a ≤ S4x4x64x512.size a) : Memref sig .tc .vmem S64x512 .bf16 :=
  (cM.slice (slotR r ch inb) (fun _ => rfl)).squeeze S64x512 squeezes_S1x1x64x512_S64x512

/-- The elements of slot `ch` of row `r`. -/
def slotSet (r ch : ℕ) : Finset S4x4x64x512.Idx := Finset.univ.filter fun i => (i 0).val = r ∧ (i 1).val = ch

/-- An element of the buffer read as a position of its slot. -/
def inSlot (i : S4x4x64x512.Idx) : S1x1x64x512.Idx
  | ⟨0, _⟩ => (⟨0, by decide⟩ : Fin 1)
  | ⟨1, _⟩ => (⟨0, by decide⟩ : Fin 1)
  | ⟨2, _⟩ => i 2
  | ⟨3, _⟩ => i 3

/-- The contents a slot's value gives every slot. -/
def spread (v : Vec F S1x1x64x512 .bf16) : S4x4x64x512.Idx → F .bf16 := fun i => v (inSlot i)

variable (r ch : ℕ) (inb : ∀ a, (![r, ch, 0, 0] : Fin 4 → ℕ) a + S1x1x64x512.size a ≤ S4x4x64x512.size a)

theorem inSlot_emb (x : S1x1x64x512.Idx) : inSlot ((slotR r ch inb).emb x) = x := by
  funext a
  apply Fin.ext
  match a with
  | ⟨0, h⟩ => exact (Nat.lt_one_iff.mp (x ⟨0, h⟩).isLt).symm
  | ⟨1, h⟩ => exact (Nat.lt_one_iff.mp (x ⟨1, h⟩).isLt).symm
  | ⟨2, _⟩ => show 0 + 1 * (x ⟨2, _⟩).val = _; omega
  | ⟨3, _⟩ => show 0 + 1 * (x ⟨3, _⟩).val = _; omega

theorem slotR_set : (slotR r ch inb).set = slotSet r ch := by
  ext i
  rw [Rect.mem_set_unit]
  simp only [slotSet, Finset.mem_filter, Finset.mem_univ, true_and]
  constructor
  · intro h
    have h0 := h ⟨0, by decide⟩
    have h1 := h ⟨1, by decide⟩
    change r ≤ (i 0).val ∧ (i 0).val < r + 1 at h0
    change ch ≤ (i 1).val ∧ (i 1).val < ch + 1 at h1
    omega
  · rintro ⟨h0, h1⟩ a
    match a with
    | ⟨0, _⟩ => change r ≤ (i 0).val ∧ (i 0).val < r + 1; omega
    | ⟨1, _⟩ => change ch ≤ (i 1).val ∧ (i 1).val < ch + 1; omega
    | ⟨2, _⟩ => have := (i 2).isLt; change 0 ≤ (i 2).val ∧ (i 2).val < 0 + 64; change (i 2).val < 64 at this; omega
    | ⟨3, _⟩ => have := (i 3).isLt; change 0 ≤ (i 3).val ∧ (i 3).val < 0 + 512; change (i 3).val < 512 at this; omega

theorem access_set : (cM.access (slotR r ch inb)).set = slotSet r ch := by
  show ((View.whole _).slice _).set = _
  rw [View.set_slice_whole]
  exact slotR_set r ch inb

theorem slotM_set : (slotM r ch inb).view.set = slotSet r ch := by
  show (((View.whole _).slice _).reshape _ _).set = _
  rw [View.set_reshape, View.set_slice_whole]
  exact slotR_set r ch inb

/-- Reading a slot at spread contents gives the slot's value. -/
theorem read_spread (v : Vec F S1x1x64x512 .bf16) : (cM.access (slotR r ch inb)).read (Elt F) (spread v) = v := by
  funext x
  exact congrArg v (inSlot_emb r ch inb x)

/-- Reading a slot of any contents gives contents agreeing on the slot. -/
theorem spread_read (f : S4x4x64x512.Idx → F .bf16) :
    ∀ i ∈ slotSet r ch, f i = spread ((cM.access (slotR r ch inb)).read (Elt F) f) i := by
  intro i hi
  rw [← slotR_set r ch inb] at hi
  obtain ⟨x, rfl⟩ := LoadRect.exists_idx_of_mem _ hi
  have h : inSlot ((slotR r ch inb).idx x) = x := inSlot_emb r ch inb x
  show _ = (cM.access (slotR r ch inb)).read (Elt F) f (inSlot _)
  rw [h]
  rfl

/-- Storing a value into a slot leaves the slot at that value. -/
theorem write_spread (f : S4x4x64x512.Idx → F .bf16) (w : Vec F S1x1x64x512 .bf16) :
    ∀ i ∈ slotSet r ch, (cM.access (slotR r ch inb)).write (Elt F) f w Finset.univ i = spread w i := by
  intro i hi
  rw [← slotR_set r ch inb] at hi
  obtain ⟨x, rfl⟩ := LoadRect.exists_idx_of_mem _ hi
  have h : inSlot ((slotR r ch inb).idx x) = x := inSlot_emb r ch inb x
  refine ((cM.access (slotR r ch inb)).write_emb_of_mem (Val := Elt F) f w (Finset.mem_univ x)).trans ?_
  show w x = w (inSlot _)
  rw [h]

/-- Copying a slot into another leaves the destination at the source's value. -/
theorem copy_spread (r' ch' : ℕ) (inb' : ∀ a, (![r', ch', 0, 0] : Fin 4 → ℕ) a + S1x1x64x512.size a ≤ S4x4x64x512.size a)
    (f : S4x4x64x512.Idx → F .bf16) (v : Vec F S1x1x64x512 .bf16) :
    ∀ i ∈ slotSet r' ch', (slotM r' ch' inb').view.write (Elt F) f ((slotM r ch inb).view.read (Elt F) (spread v)) Finset.univ i = spread v i := by
  intro i hi
  rw [← slotM_set r' ch' inb'] at hi
  obtain ⟨x, -, rfl⟩ := Finset.mem_map.mp hi
  refine ((slotM r' ch' inb').view.write_emb_of_mem (Val := Elt F) f _ (Finset.mem_univ x)).trans ?_
  show v (inSlot ((slotR r ch inb).emb (Shape.reshapeEquiv _ x))) = v (inSlot ((slotR r' ch' inb').emb (Shape.reshapeEquiv _ x)))
  rw [inSlot_emb, inSlot_emb]

/-! ## Slots as assertions -/

/-- Slot `ch` of row `r` of device `c`'s exchange buffer, held at value `v`. -/
def slotPts (c : Dev nD) (r ch : ℕ) (v : Vec F S1x1x64x512 .bf16) : sProp 𝕄 :=
  ((c : Thread nD τ).loc cc0_scratch0) ↦[slotSet r ch]{fullShare} spread v

instance (c : Dev nD) (r ch : ℕ) (v : Vec F S1x1x64x512 .bf16) : BI.Storable (upEmb : UEmb _ 𝕄) (slotPts c r ch v) := by
  unfold slotPts; infer_instance

/-- A slot at any contents is a slot at some value. -/
theorem slotPts_of (c : Dev nD) (f : S4x4x64x512.Idx → F .bf16) :
    (((c : Thread nD τ).loc cc0_scratch0) ↦[slotSet r ch]{fullShare} f : sProp 𝕄)
      ⊢ slotPts c r ch ((cM.access (slotR r ch inb)).read (Elt F) f) := by
  unfold slotPts
  exact Entails.of_eq (pointsTo_congr (spread_read r ch inb f))

/-- The slot at the copied contents, from the destination view. -/
theorem slotPts_copied (c : Dev nD) (r' ch' : ℕ) (inb' : ∀ a, (![r', ch', 0, 0] : Fin 4 → ℕ) a + S1x1x64x512.size a ≤ S4x4x64x512.size a)
    (f : S4x4x64x512.Idx → F .bf16) (v : Vec F S1x1x64x512 .bf16) :
    (((c : Thread nD τ).loc cc0_scratch0) ↦[(slotM r' ch' inb').view.set]{fullShare}
        (slotM r' ch' inb').view.write (Elt F) f ((slotM r ch inb).view.read (Elt F) (spread v)) Finset.univ : sProp 𝕄)
      ⊢ slotPts c r' ch' v := by
  unfold slotPts
  rw [slotM_set]
  exact Entails.of_eq (pointsTo_congr (copy_spread r ch inb r' ch' inb' f v))

/-- The slot after a store. -/
theorem slotPts_written (c : Dev nD) (f : S4x4x64x512.Idx → F .bf16) (w : Vec F S1x1x64x512 .bf16) :
    (((c : Thread nD τ).loc cc0_scratch0) ↦[slotSet r ch]{fullShare} (cM.access (slotR r ch inb)).write (Elt F) f w Finset.univ : sProp 𝕄)
      ⊢ slotPts c r ch w := by
  unfold slotPts
  exact Entails.of_eq (pointsTo_congr (write_spread r ch inb f w))

/-- The slot through the view a transfer names. -/
theorem slotPts_view (c : Dev nD) (v : Vec F S1x1x64x512 .bf16) :
    (slotPts c r ch v : sProp 𝕄) = (slotM r ch inb).view.loc (c : Thread nD τ) ↦[(slotM r ch inb).view.set]{fullShare} spread v := by
  unfold slotPts
  rw [slotM_set]

abbrev 𝒱₀ : Variants := Variants.none

/-- The body's weakest precondition on device `c`. -/
abbrev wpb (c : Dev nD) {α : Type} (p : Prog (TpuEff nD τ sig (Elt F) Λ₀ .tc) α) (Q : α → sProp 𝕄) : sProp 𝕄 :=
  wp frame (wpE (defs₀ (F := F)) 𝒱₀ c none) Set.univ p Q

variable {α : Type}

/-- A load of a slot reads the slot's value. -/
theorem wp_slot_load (c : Dev nD) (v : Vec F S1x1x64x512 .bf16) {hl : cM.view.LoadsAt (slotR r ch inb).toLoadRect}
    {k : Vec F S1x1x64x512 .bf16 → Prog (TpuEff nD τ sig (Elt F) Λ₀ .tc) α} {Q : α → sProp 𝕄} :
    (slotPts c r ch v : sProp 𝕄)
      ⊢ iprop((slotPts c r ch v -∗ wpb c (k v) Q) -∗ wpb c (.op (.load cM (slotR r ch inb).toLoadRect hl) k) Q) := by
  have h := wp_load_rect (Γ := .empty) (Ix := Unit) (Name := ℕ) (U := UU) (Lvl := ℕ) (defs := defs₀ (F := F)) 𝒱₀ (c : Thread nD τ) none Set.univ (m := cM) (r := slotR r ch inb) (hl := hl) (k := k) (Q := Q)
    (S := slotSet r ch) (q := fullShare) (f := spread v) (access_set r ch inb).le
  rw [read_spread] at h
  exact h

/-- A store of a slot leaves it at the value stored. -/
theorem wp_slot_store (c : Dev nD) (v w : Vec F S1x1x64x512 .bf16) {hx : (cM.access (slotR r ch inb)).Stores Finset.univ}
    {hm : (Finset.univ : Finset (slotR r ch inb).shape.Idx) = Finset.univ ∨ ∀ a, (slotR r ch inb).stride a = 1}
    {k : PUnit → Prog (TpuEff nD τ sig (Elt F) Λ₀ .tc) α} {Q : α → sProp 𝕄} :
    (slotPts c r ch v : sProp 𝕄)
      ⊢ iprop((slotPts c r ch w -∗ wpb c (k ⟨⟩) Q) -∗ wpb c (.op (.store cM (slotR r ch inb) w Finset.univ hx hm) k) Q) := by
  have h := wp_store (Γ := .empty) (Ix := Unit) (Name := ℕ) (U := UU) (Lvl := ℕ) (defs := defs₀ (F := F)) 𝒱₀ (c : Thread nD τ) none Set.univ (m := cM) (r := slotR r ch inb) (w := w) (hx := hx) (hm := hm) (k := k) (Q := Q)
    (S := slotSet r ch) (f := spread v) (access_set r ch inb).le
  refine h.trans (wand_mono_left (wand_mono_left ?_))
  exact slotPts_written r ch inb c (spread v) w

end Cert.KernelIdeal.Exchange

end
-- ==== Proof.Protocol.lean ====
/-
# The exchange protocol

Device `c` has two partners: `p1 c` (its neighbour in the first bit of the mesh position) and `p2 c`
(its neighbour in both bits). It makes eight transfers. Transfer `j < 4` copies its partial result of
chunk `j` from row 0 of its exchange buffer into row 1 of the partner's, transfer `j ≥ 4` copies the
sum of two partials of chunk `j - 4` from row 2 into row 3. Transfers 0, 1, 6, 7 go to `p1 c`,
transfers 2, 3, 4, 5 to `p2 c`, and the partner of the partner is the device itself, so the
transfer `j` that lands on `c` comes from the device its own transfer `j` goes to.

Cells and their single round:
* the barrier cell of `c` has two duties of one unit, `false` paid by `p1 c` and `true` by `p2 c`; each
  hands `c` the slots of the payer that `c`'s transfers to that payer land in, and that the receive
  cells of these transfers have reached round 0;
* the send cell `j` of `c` has one duty, paid by `c`'s transfer `j`: the source slot back;
* the receive cell `j` of `c` has one duty, paid by the partner's transfer `j`: the destination slot
  at what the partner sent.

What a transfer carries is a parameter here: `ct c j` is the content of `c`'s transfer `j`.
-/
module

public import proofs.«01_k».proof.Proof.Slots

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partners -/

/-- The partner across the first bit. -/
def p1 (c : Dev nD) : Dev nD := if c.val % 2 = 0 then ⟨(c.val + 1) % 4, Nat.mod_lt _ (by decide)⟩ else ⟨(c.val + 3) % 4, Nat.mod_lt _ (by decide)⟩
/-- The partner across both bits. -/
def p2 (c : Dev nD) : Dev nD := ⟨(3 - c.val) % 4, Nat.mod_lt _ (by decide)⟩

theorem p1_p1 (c : Dev nD) : p1 (p1 c) = c := by revert c; decide
theorem p2_p2 (c : Dev nD) : p2 (p2 c) = c := by revert c; decide

/-- The device transfer `j` of `c` goes to. -/
def peer (j : Fin 8) (c : Dev nD) : Dev nD := if j.val < 2 ∨ 6 ≤ j.val then p1 c else p2 c
theorem peer_peer (j : Fin 8) (c : Dev nD) : peer j (peer j c) = c := by
  unfold peer; split
  · exact p1_p1 c
  · exact p2_p2 c

def ring1 : Dev nD ≃ Dev nD := ⟨p1, p1, p1_p1, p1_p1⟩
def ring2 : Dev nD ≃ Dev nD := ⟨p2, p2, p2_p2, p2_p2⟩
def ringP (j : Fin 8) : Dev nD ≃ Dev nD := ⟨peer j, peer j, peer_peer j, peer_peer j⟩

/-- The source row, the destination row and the chunk of transfer `j`. -/
def srcRow (j : Fin 8) : ℕ := if j.val < 4 then 0 else 2
def dstRow (j : Fin 8) : ℕ := if j.val < 4 then 1 else 3
def chOf (j : Fin 8) : ℕ := j.val % 4

/-! ## Cells -/

/-- The barrier semaphore. -/
abbrev barS : Sem sig := (SemArray.scalar (sig.barrier 0 rfl) : Sems sig S_).sem
/-- The kernel's own semaphores: eight for sends, then eight for receives. -/
def ownS (k : Fin 16) : DmaSem sig := ⟨6 + k.val, by have := k.isLt; show 6 + k.val < 22; omega⟩
def sendS (j : Fin 8) : DmaSem sig := ownS ⟨j.val, by omega⟩
def recvS (j : Fin 8) : DmaSem sig := ownS ⟨8 + j.val, by omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

theorem ownS_inj : Function.Injective ownS := fun a b h => Fin.ext (by
  have := congrArg Fin.val h
  change 6 + a.val = 6 + b.val at this
  omega)

theorem slot_inb (r ch : ℕ) (hr : r < 4) (hc : ch < 4) :
    ∀ a, (![r, ch, 0, 0] : Fin 4 → ℕ) a + S1x1x64x512.size a ≤ S4x4x64x512.size a := fun a =>
  match a with
  | ⟨0, _⟩ => show r + 1 ≤ 4 by omega
  | ⟨1, _⟩ => show ch + 1 ≤ 4 by omega
  | ⟨2, _⟩ => show 0 + 64 ≤ 64 by omega
  | ⟨3, _⟩ => show 0 + 512 ≤ 512 by omega

/-- What a transfer of a slot counts on its semaphores. -/
abbrev N : ℕ := (slotM 0 0 (slot_inb 0 0 (by decide) (by decide))).view.dmaCredit
theorem N_pos : 0 < N := View.dmaCredit_pos _ (by decide)

variable (ct : Dev nD → Fin 8 → Vec F S1x1x64x512 .bf16)

/-! ## The schedule -/

/-- The partner's slot transfer `j` of `c` lands in, and that its receive cell is at round 0. -/
def landing (c : Dev nD) (j : Fin 8) : sProp 𝕄 :=
  iprop((∃ v, slotPts (peer j c) (dstRow j) (chOf j) v) ∗ reached ER (recvCell (peer j c) j) 0)

/-- What a unit on the barrier cell of `c` brings: from `p1 c` (`false`) or from `p2 c` (`true`). -/
def barPay (c : Dev nD) : Bool → sProp 𝕄
  | false => iprop(landing c 0 ∗ landing c 1 ∗ landing c 6 ∗ landing c 7)
  | true => iprop(landing c 2 ∗ landing c 3 ∗ landing c 4 ∗ landing c 5)

/-- What the cell of own semaphore `k` brings: a send's source slot back, a receive's destination slot as sent. -/
def ownPay (c : Dev nD) (k : ℕ) : sProp 𝕄 :=
  if h : k < 8 then slotPts c (srcRow ⟨k, h⟩) (chOf ⟨k, h⟩) (ct c ⟨k, h⟩)
  else if h : k - 8 < 8 then slotPts c (dstRow ⟨k - 8, h⟩) (chOf ⟨k - 8, h⟩) (ct (peer ⟨k - 8, h⟩ c) ⟨k - 8, h⟩)
  else iprop(emp)

/-- The cells of the exchange: a device's barrier cell, and its sixteen own ones. -/
def IsBar (g : GSem nD τ sig) : Prop := g.1.2 = .tc ∧ g.2 = .reg barS
def IsOwn (g : GSem nD τ sig) : Prop := g.1.2 = .tc ∧ ∃ k, g.2 = .dma (ownS k)

instance (g : GSem nD τ sig) : Decidable (IsBar g) := by unfold IsBar; infer_instance
instance (g : GSem nD τ sig) : Decidable (IsOwn g) := by unfold IsOwn; infer_instance

def Rd : Rounds.Schedule (GSem nD τ sig) Bool 𝕄 where
  duties g r := if r = 0 ∧ IsBar g then Finset.univ else if r = 0 ∧ IsOwn g then {false} else ∅
  unitless _ := False
  amount g _ _ := match g.2 with
    | .reg _ => 1
    | .dma _ => N
  payload g _ d := match g.2 with
    | .reg _ => barPay g.1.1 d
    | .dma s => ownPay ct g.1.1 (s.val - 6)
  amount_pos g _ _ _ := by
    obtain ⟨t, s | s⟩ := g
    · exact Nat.one_pos
    · exact N_pos

instance landing_storable (c : Dev nD) (j : Fin 8) : BI.Storable (upEmb : UEmb _ 𝕄) (landing (F := F) c j) := by
  unfold landing; infer_instance

instance Rd_payload_storable (g : GSem nD τ sig) (r : ℕ) (d : Bool) :
    BI.Storable (upEmb : UEmb _ 𝕄) ((Rd ct).payload g r d) := by
  obtain ⟨t, s | s⟩ := g
  · show BI.Storable upEmb (barPay t.1 d)
    cases d <;> · unfold barPay; infer_instance
  · show BI.Storable upEmb (ownPay ct t.1 (s.val - 6))
    unfold ownPay
    (repeat' split) <;> infer_instance

section Sched
variable (c : Dev nD) (j : Fin 8)

theorem not_bar_own (k : Fin 16) : ¬ IsBar (((c : Thread nD τ), .dma (ownS k)) : GSem nD τ sig) := fun h => by cases h.2

theorem duties_bar : (Rd ct).duties (barCell c) 0 = Finset.univ := by dsimp only [Rd]; exact if_pos ⟨rfl, rfl, rfl⟩
theorem duties_own (k : Fin 16) : (Rd ct).duties ((c : Thread nD τ), .dma (ownS k)) 0 = {false} := by
  dsimp only [Rd]; rw [if_neg (fun h => not_bar_own c k h.2), if_pos ⟨rfl, rfl, k, rfl⟩]
theorem duties_later (g : GSem nD τ sig) : ∀ r, 1 ≤ r → (Rd ct).duties g r = ∅ :=
  fun r hr => by dsimp only [Rd]; rw [if_neg (fun h => by omega), if_neg (fun h => by omega)]

theorem amount_bar (d : Bool) : (Rd ct).amount (barCell c) 0 d = 1 := rfl
theorem amount_own (k : Fin 16) (d : Bool) : (Rd ct).amount ((c : Thread nD τ), .dma (ownS k)) 0 d = N := rfl

theorem expect_bar : (Rd ct).expect (barCell c) 0 = 2 := by
  unfold Schedule.expect Schedule.amountOf
  rw [duties_bar, Finset.sum_congr rfl fun d _ => amount_bar ct c d]
  rfl
theorem expect_own (k : Fin 16) : (Rd ct).expect ((c : Thread nD τ), .dma (ownS k)) 0 = N := by
  unfold Schedule.expect Schedule.amountOf; rw [duties_own, Finset.sum_singleton, amount_own]

theorem expect_send : (Rd ct).expect (sendCell c j) 0 = N := expect_own ct c _
theorem expect_recv : (Rd ct).expect (recvCell c j) 0 = N := expect_own ct c _

theorem payload_bar (d : Bool) : (Rd ct).payload (barCell c) 0 d = barPay c d := rfl
theorem payload_send (d : Bool) : (Rd ct).payload (sendCell c j) 0 d = slotPts c (srcRow j) (chOf j) (ct c j) := by
  show ownPay ct c (6 + j.val - 6) = _
  unfold ownPay
  have h : 6 + j.val - 6 = j.val := by omega
  simp only [h, j.isLt, dite_true]
theorem payload_recv (d : Bool) : (Rd ct).payload (recvCell c j) 0 d = slotPts c (dstRow j) (chOf j) (ct (peer j c) j) := by
  show ownPay ct c (6 + (8 + j.val) - 6) = _
  unfold ownPay
  have h : 6 + (8 + j.val) - 6 - 8 = j.val := by omega
  have h' : ¬ (6 + (8 + j.val) - 6 < 8) := by omega
  simp only [h', dite_false, h, j.isLt, dite_true]

theorem rest_bar : bigSep ((Rd ct).duties (barCell c) 0 \ ∅) (fun d => (Rd ct).payload (barCell c) 0 d)
    = iprop(barPay c false ∗ barPay c true) := by
  rw [Finset.sdiff_empty, duties_bar, BI.bigSep_univ_eq_bigSepL [false, true] (by decide) (by decide), bigSepL_cons_cons, bigSepL_singleton]
  rfl
theorem rest_send : bigSep ((Rd ct).duties (sendCell c j) 0 \ ∅) (fun d => (Rd ct).payload (sendCell c j) 0 d)
    = slotPts c (srcRow j) (chOf j) (ct c j) := by
  rw [Finset.sdiff_empty, show (Rd ct).duties (sendCell c j) 0 = {false} from duties_own ct c _, bigSep_singleton, payload_send]
theorem rest_recv : bigSep ((Rd ct).duties (recvCell c j) 0 \ ∅) (fun d => (Rd ct).payload (recvCell c j) 0 d)
    = slotPts c (dstRow j) (chOf j) (ct (peer j c) j) := by
  rw [Finset.sdiff_empty, show (Rd ct).duties (recvCell c j) 0 = {false} from duties_own ct c _, bigSep_singleton, payload_recv]

end Sched

/-! ## What a device owes; the levels -/

/-- The landings device `c` still has to pay, the next one first. -/
def owe (c : Dev nD) : List (Fin 8) → CellTallies nD τ sig Unit
  | [] => 0
  | j :: l => owe c l + tallyAt (recvCell (peer j c) j) () N

/-- At launch: its eight landings and a unit on each partner's barrier cell. -/
def O₀ (c : Dev nD) : CellTallies nD τ sig Unit :=
  owe c [0, 1, 2, 3, 4, 5, 6, 7] + tallyAt (barCell (p2 c)) () 1 + tallyAt (barCell (p1 c)) () 1

def L (g : GSem nD τ sig) : Finset Unit := if g.1.2 = .tc then {()} else ∅
/-- Barrier 1, first-round landings 2, second-round landings 3, all else 0. -/
def slv : SemLoc sig → ℕ
  | .reg _ => 1
  | .dma s => if 18 ≤ s.val then 3 else if 14 ≤ s.val then 2 else 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem owe_pos (c : Dev nD) (l : List (Fin 8)) (g : GSem nD τ sig) (u : Unit) (h : 0 < owe c l g u) :
    ∃ j ∈ l, g = recvCell (peer j c) j := by
  induction l with
  | nil => exact absurd h (Nat.lt_irrefl 0)
  | cons j l ih =>
    unfold owe at h
    rw [Pi.add_apply, Finsupp.add_apply] at h
    by_cases hg : g = recvCell (peer j c) j
    · exact ⟨j, List.mem_cons_self, hg⟩
    · rw [tallyAt_apply, if_neg (fun h' => hg h'.1), Nat.add_zero] at h
      obtain ⟨j', hj', e⟩ := ih h
      exact ⟨j', List.mem_cons_of_mem _ hj', e⟩

/-- A wait is admitted while only landings of a higher level are owed. -/
theorem mayWait (c : Dev nD) (sm : SemLoc sig) (l : List (Fin 8)) (hl : ∀ j ∈ l, slv sm < slv (.dma (recvS j))) :
    (levAts L lv : sProp 𝕄) ⊢ MayWait (c : Thread nD τ) sm () (owe c l) :=
  MayOwe.of_cut (L := L) (lev := lv) (slv sm) (fun p hp => by rw [Finset.mem_singleton.mp hp, L_tc]; exact Finset.mem_singleton_self _)
    (fun g u hg => by
      obtain ⟨j, -, rfl⟩ := owe_pos c l g u hg
      rw [L_tc]; exact Finset.mem_singleton_self _)
    (fun p hp => by rw [Finset.mem_singleton.mp hp]; exact le_refl _)
    (fun g u hg => by
      obtain ⟨j, hj, rfl⟩ := owe_pos c l g u hg
      exact hl j hj)

/-! ## The cells as sets, and the records every device may consult -/

def barEmb : Dev nD ↪ GSem nD τ sig := ⟨fun c => barCell c, fun _ _ h => congrArg (fun g : GSem nD τ sig => g.1.1) h⟩
def ownEmb : Dev nD × Fin 16 ↪ GSem nD τ sig :=
  ⟨fun ck => ((ck.1 : Thread nD τ), .dma (ownS ck.2)), fun a b h =>
    Prod.ext (congrArg (fun g : GSem nD τ sig => g.1.1) h) (ownS_inj (by
      have h2 := congrArg Prod.snd h
      exact SemLoc.dma.inj h2))⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  have h2 := congrArg Prod.snd h
  cases h2

/-- All the cells' invariants under one map of names, and round 0 of every barrier cell reached. -/
def records (κ : GSem nD τ sig → ℕ) : sProp 𝕄 :=
  iprop((bigSep (barCells ∪ ownCells) fun g => cellInv ER (Rd ct) (κ g) g) ∗ bigSep barCells fun g => reached ER g 0)

instance records_persistent (κ : GSem nD τ sig → ℕ) : BI.Persistent (records ct κ) := by unfold records; infer_instance

variable (κ : GSem nD τ sig → ℕ)

theorem records_inv {g : GSem nD τ sig} (hg : g ∈ (barCells ∪ ownCells : Finset (GSem nD τ sig))) :
    records ct κ ⊢ cellInv ER (Rd ct) (κ g) g := by
  unfold records; iintro ⟨H, -⟩
  iapply (show (bigSep (barCells ∪ ownCells) fun g => (cellInv ER (Rd ct) (κ g) g : sProp 𝕄)) ⊢ cellInv ER (Rd ct) (κ g) g from bigSep_elim hg)
  iexact H

theorem records_bar (c : Dev nD) : records ct κ ⊢ cellInv ER (Rd ct) (κ (barCell c)) (barCell c) :=
  records_inv ct κ (Finset.mem_union_left _ (Finset.mem_map_of_mem barEmb (Finset.mem_univ c)))
theorem records_own (c : Dev nD) (k : Fin 16) :
    records ct κ ⊢ cellInv ER (Rd ct) (κ ((c : Thread nD τ), .dma (ownS k))) ((c : Thread nD τ), .dma (ownS k)) :=
  records_inv ct κ (Finset.mem_union_right _ (Finset.mem_map_of_mem ownEmb (Finset.mem_univ (c, k))))
theorem records_reached (c : Dev nD) : records ct κ ⊢ reached ER (barCell c) 0 := by
  unfold records; iintro ⟨-, H⟩
  iapply (show (bigSep barCells fun g => (reached ER g 0 : sProp 𝕄)) ⊢ reached ER (barCell c) 0 from
    bigSep_elim (Finset.mem_map_of_mem barEmb (Finset.mem_univ c)))
  iexact H

/-! ## A transfer's holdings, stage by stage -/

/-- Before the transfer: positions on both cells, the two duties' tokens, the credit of the landing it waits for. -/
def tx (c : Dev nD) (j : Fin 8) : sProp 𝕄 :=
  iprop(atPos ER (sendCell c j) 0 ∅ 0 ∗ atPos ER (recvCell c j) 0 ∅ 0 ∗ reached ER (sendCell c j) 0
    ∗ dutyTok ER (sendCell c j) 0 false ∗ dutyTok ER (recvCell (peer j c) j) 0 false ∗ cred (tallyAt (recvCell c j) () N))
/-- In flight. -/
def fl (c : Dev nD) (j : Fin 8) : sProp 𝕄 :=
  iprop(atPos ER (sendCell c j) 0 ∅ 0 ∗ atPos ER (recvCell c j) 0 ∅ 0
    ∗ cred (tallyAt (sendCell c j) () N) ∗ cred (tallyAt (recvCell c j) () N))
/-- Sent. -/
def sn (c : Dev nD) (j : Fin 8) : sProp 𝕄 :=
  iprop(atPos ER (sendCell c j) (0 + 1) ∅ 0 ∗ atPos ER (recvCell c j) 0 ∅ 0 ∗ cred (tallyAt (recvCell c j) () N))
/-- Done. -/
def dn (c : Dev nD) (j : Fin 8) : sProp 𝕄 :=
  iprop(atPos ER (sendCell c j) (0 + 1) ∅ 0 ∗ atPos ER (recvCell c j) (0 + 1) ∅ 0)
/-- What device `c` owes, at some set of waits made. -/
def owing (c : Dev nD) (l : List (Fin 8)) : sProp 𝕄 := iprop(∃ W, owes (c : Thread nD τ) (owe c l) W)

variable {α : Type}

/-- The start of transfer `j`. -/
theorem wp_start (c : Dev nD) (j : Fin 8) (l : List (Fin 8)) (q : Dev nD) (hq : q = peer j c)
    (r ch r' ch' : ℕ) (hr : r = srcRow j) (hc : ch = chOf j) (hr' : r' = dstRow j) (hc' : ch' = chOf j)
    (inb : ∀ a, (![r, ch, 0, 0] : Fin 4 → ℕ) a + S1x1x64x512.size a ≤ S4x4x64x512.size a)
    (inb' : ∀ a, (![r', ch', 0, 0] : Fin 4 → ℕ) a + S1x1x64x512.size a ≤ S4x4x64x512.size a)
    (sS rS : DmaSem sig) (hs : sS = sendS j) (hR : rS = recvS j)
    {hsc : (slotM r' ch' inb').view.ref.isScScratch = false}
    {hsrc : (slotM r ch inb).view.WordExact} {hdst : (slotM r' ch' inb').view.WordExact}
    {hsem : DmaTarget.Typed .vmem (.dma rS) (.remote (Dev.tc q : Thread nD τ) (slotM r' ch' inb') (.dma sS) hsc)}
    {k : PUnit → Prog (TpuEff nD τ sig (Elt F) Λ₀ .tc) α} {Q : α → sProp 𝕄} :
    iprop(records ct κ ∗ slotPts c r ch (ct c j) ∗ tx c j ∗ landing c j ∗ owing c (j :: l))
      ⊢ iprop(((fl c j ∗ owing c l) -∗ wpb c (k ⟨⟩) Q)
        -∗ wpb c (.op (.enqueueDma (slotM r ch inb) (.remote (Dev.tc q) (slotM r' ch' inb') (.dma sS) hsc) (.dma rS) hsrc hdst hsem) k) Q) := by
  subst hq hs hR hr hc hr' hc'
  unfold tx landing owing fl
  iintro ⟨#HR, Hs, ⟨HaS, HaR, #HrS, HtS, HtR, Hc⟩, ⟨⟨%v, Hd⟩, #HrR⟩, ⟨%W, HO⟩⟩ Hk
  ihave Hs := (Entails.of_eq (slotPts_view _ _ inb c (ct c j))) $$ Hs
  ihave Hd := (Entails.of_eq (slotPts_view _ _ inb' (peer j c) v)) $$ Hd
  iapply (Rounds.wp_send_pointsTo 𝒱₀ ER (Rd ct) (c : Thread nD τ) none (c' := (peer j c : Thread nD τ)) (src := slotM _ _ inb) (dst := slotM _ _ inb')
      (sS := .dma (sendS j)) (sem := .dma (recvS j)) (q := fullShare) (fs := spread (ct c j)) (κ₁ := κ (sendCell c j)) (κ₂ := κ (recvCell (peer j c) j))
      (r₁ := 0) (r₂ := 0) (d₁ := false) (d₂ := false) (fd := spread v)
      (by rw [show (Rd ct).duties (sendCell c j) 0 = {false} from duties_own ct c _]; exact Finset.mem_singleton_self _)
      (by rw [show (Rd ct).duties (recvCell (peer j c) j) 0 = {false} from duties_own ct _ _]; exact Finset.mem_singleton_self _)
      () () N rfl rfl rfl (owe c l) rfl (W := W)
      (by rw [payload_send, slotPts_view _ _ inb])
      (by rw [payload_recv, peer_peer]; exact slotPts_copied _ _ inb (peer j c) _ _ inb' (spread v) (ct c j))) $$ [Hs Hd HO HtS HtR]
  · isplitr; · iapply (records_own ct κ c); iexact HR
    isplitr; · iapply (records_own ct κ (peer j c)); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitr [HO]
  · isplitl [HaS]; · iexact HaS
    isplitl [HaR]; · iexact HaR
    isplitl [HcS] <;> iassumption
  · iexists W; iexact HO

/-- The wait for transfer `j`'s departure: the source slot comes back. -/
theorem wp_wait_send (c : Dev nD) (j : Fin 8) (l : List (Fin 8)) (hl : ∀ j' ∈ l, slv (.dma (sendS j)) < slv (.dma (recvS j')))
    (r ch r' ch' : ℕ) (hr : r = srcRow j) (hc : ch = chOf j)
    (inb : ∀ a, (![r, ch, 0, 0] : Fin 4 → ℕ) a + S1x1x64x512.size a ≤ S4x4x64x512.size a)
    (inb' : ∀ a, (![r', ch', 0, 0] : Fin 4 → ℕ) a + S1x1x64x512.size a ≤ S4x4x64x512.size a)
    (sS : DmaSem sig) (hs : sS = sendS j)
    {hsrc : (slotM r' ch' inb').view.WordExact} {hdst : (slotM r ch inb).view.WordExact}
    {k : PUnit → Prog (TpuEff nD τ sig (Elt F) Λ₀ .tc) α} {Q : α → sProp 𝕄} :
    iprop(records ct κ ∗ levAts L lv ∗ fl c j ∗ owing c l)
      ⊢ iprop(((slotPts c r ch (ct c j) ∗ sn c j ∗ owing c l) -∗ wpb c (k ⟨⟩) Q)
        -∗ wpb c (.op (.waitDma2 sS (slotM r' ch' inb') (slotM r ch inb) hsrc hdst) k) Q) := by
  subst hs hr hc
  unfold fl sn owing
  iintro ⟨#HR, #Hlev, ⟨HaS, HaR, HcS, HcR⟩, ⟨%W, HO⟩⟩ Hk
  iapply (Rounds.wp_wait_rest_token 𝒱₀ ER (Rd ct) (c : Thread nD τ) none (κ := κ (sendCell c j))
      (wpE_waitDma2_eq (src := slotM r' ch' inb') (dst := slotM _ _ inb) 𝒱₀ (c : Thread nD τ) none Set.univ) (Set.mem_univ _) () (O := owe c l) (W := W) (R := 0) (m := 0) (T := ∅)
      ((Nat.zero_add _).trans (expect_send ct c j).symm)) $$ [HcS HO HaS]
  · isplitr; · iapply (records_own ct κ c); iexact HR
    isplitl [HcS]; · iexact HcS
    isplitl [HO]; · iexact HO
    isplitr; · iapply (mayWait c _ l hl); iexact Hlev
    iexact HaS
  iintro ⟨HO, HaS, -, Hpay⟩
  ihave Hp := (Entails.of_eq (rest_send ct c j)) $$ Hpay
  iapply Hk
  isplitl [Hp]; · iexact Hp
  isplitr [HO]
  · isplitl [HaS]; · iexact HaS
    isplitl [HaR] <;> iassumption
  · iexists _; iexact HO

/-- The wait for the landing of the partner's transfer `j`: the destination slot comes at what the partner sent. -/
theorem wp_wait_recv (c : Dev nD) (j : Fin 8) (l : List (Fin 8)) (hl : ∀ j' ∈ l, slv (.dma (recvS j)) < slv (.dma (recvS j')))
    (r ch r' ch' : ℕ) (hr : r = dstRow j) (hc : ch = chOf j)
    (inb : ∀ a, (![r, ch, 0, 0] : Fin 4 → ℕ) a + S1x1x64x512.size a ≤ S4x4x64x512.size a)
    (inb' : ∀ a, (![r', ch', 0, 0] : Fin 4 → ℕ) a + S1x1x64x512.size a ≤ S4x4x64x512.size a)
    (rS : DmaSem sig) (hs : rS = recvS j)
    {hsrc : (slotM r' ch' inb').view.WordExact} {hdst : (slotM r ch inb).view.WordExact}
    {k : PUnit → Prog (TpuEff nD τ sig (Elt F) Λ₀ .tc) α} {Q : α → sProp 𝕄} :
    iprop(records ct κ ∗ levAts L lv ∗ sn c j ∗ owing c l)
      ⊢ iprop(((slotPts c r ch (ct (peer j c) j) ∗ dn c j ∗ owing c l) -∗ wpb c (k ⟨⟩) Q)
        -∗ wpb c (.op (.waitDma2 rS (slotM r' ch' inb') (slotM r ch inb) hsrc hdst) k) Q) := by
  subst hs hr hc
  unfold sn dn owing
  iintro ⟨#HR, #Hlev, ⟨HaS, HaR, HcR⟩, ⟨%W, HO⟩⟩ Hk
  iapply (Rounds.wp_wait_rest_token 𝒱₀ ER (Rd ct) (c : Thread nD τ) none (κ := κ (recvCell c j))
      (wpE_waitDma2_eq (src := slotM r' ch' inb') (dst := slotM _ _ inb) 𝒱₀ (c : Thread nD τ) none Set.univ) (Set.mem_univ _) () (O := owe c l) (W := W) (R := 0) (m := 0) (T := ∅)
      ((Nat.zero_add _).trans (expect_recv ct c j).symm)) $$ [HcR HO HaR]
  · isplitr; · iapply (records_own ct κ c); iexact HR
    isplitl [HcR]; · iexact HcR
    isplitl [HO]; · iexact HO
    isplitr; · iapply (mayWait c _ l hl); iexact Hlev
    iexact HaR
  iintro ⟨HO, HaR, -, Hpay⟩
  ihave Hp := (Entails.of_eq (rest_recv ct c j)) $$ Hpay
  iapply Hk
  isplitl [Hp]; · iexact Hp
  isplitr [HO]
  · isplitl [HaS] <;> iassumption
  · iexists _; iexact HO

/-- After the exchange each own counter is back at zero. -/
theorem close_own (c : Dev nD) (k : Fin 16) :
    iprop(records ct κ ∗ atPos ER ((c : Thread nD τ), .dma (ownS k)) (0 + 1) ∅ 0)
      ⊢ (|={Set.univ}=> semVal ((c : Thread nD τ), .dma (ownS k)) 0 : sProp 𝕄) :=
  (sep_mono_left (records_own ct κ c k)).trans (Rounds.cell_close ER (Rd ct) (Set.mem_univ _) id (duties_later ct _))

theorem close_bar (c : Dev nD) :
    iprop(records ct κ ∗ atPos ER (barCell c) (0 + 1) ∅ 0) ⊢ (|={Set.univ}=> semVal (barCell c) 0 : sProp 𝕄) :=
  (sep_mono_left (records_bar ct κ c)).trans (Rounds.cell_close ER (Rd ct) (Set.mem_univ _) id (duties_later ct _))

end Cert.KernelIdeal.Exchange

end
-- ==== Proof.Fill.lean ====
module

public import proofs.«01_k».proof.Proof.Protocol

/-! The block-diagonal key and value buffers the kernel fills before it computes. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers of the call -/

abbrev xM : Memref sig .tc .vmem S2x128x512 .bf16 := Memref.whole cc0_stg0_0
abbrev qM : Memref sig .tc .vmem S512x256 .bf16 := Memref.whole cc0_stg1_0
abbrev kM : Memref sig .tc .vmem S2x4x128x64 .bf16 := Memref.whole cc0_stg2_0
abbrev vM : Memref sig .tc .vmem S2x4x128x64 .bf16 := Memref.whole cc0_stg3_0
abbrev wM : Memref sig .tc .vmem S256x512 .bf16 := Memref.whole cc0_stg4_0
abbrev oM : Memref sig .tc .vmem S2x128x512 .bf16 := Memref.whole cc0_stg5_0
abbrev kbM : Memref sig .tc .vmem S2x512x256 .bf16 := Memref.whole cc0_scratch3
abbrev vbM : Memref sig .tc .vmem S2x512x256 .bf16 := Memref.whole cc0_scratch4

/-- Buffer `b` of device `c` at contents `f`. -/
abbrev at_ (c : Dev nD) (b : Ref sig .tc) (f : b.ty.Contents (Elt F)) : sProp 𝕄 :=
  iprop((c : Thread nD τ).loc b ↦{fullShare} f)

/-! ## The contents the fills leave -/

/-- The head block `o` of the keys. -/
def kHead (K : Vec F S2x4x128x64 .bf16) (o : Fin 4 → ℕ) (h : ∀ a, o a + S1x1x128x64.size a ≤ S2x4x128x64.size a) : Vec F S1x1x128x64 .bf16 :=
  kM.view.readAt (Elt F) (Rect.unit (s := S2x4x128x64) o S1x1x128x64.size h).toLoadRect K
/-- The head block `o` of the values. -/
def vHead (V : Vec F S2x4x128x64 .bf16) (o : Fin 4 → ℕ) (h : ∀ a, o a + S1x1x128x64.size a ≤ S2x4x128x64.size a) : Vec F S1x1x128x64 .bf16 :=
  vM.view.readAt (Elt F) (Rect.unit (s := S2x4x128x64) o S1x1x128x64.size h).toLoadRect V
/-- The key buffer with the block at `o` overwritten. -/
def kPut (f : Vec F S2x512x256 .bf16) (o : Fin 3 → ℕ) (h : ∀ a, o a + S1x128x64.size a ≤ S2x512x256.size a) (w : Vec F S1x128x64 .bf16) : Vec F S2x512x256 .bf16 :=
  (kbM.access (Rect.unit (s := S2x512x256) o S1x128x64.size h)).write (Elt F) f w Finset.univ
/-- The value buffer with the block at `o` overwritten. -/
def vPut (f : Vec F S2x512x256 .bf16) (o : Fin 3 → ℕ) (h : ∀ a, o a + S1x128x64.size a ≤ S2x512x256.size a) (w : Vec F S1x128x64 .bf16) : Vec F S2x512x256 .bf16 :=
  (vbM.access (Rect.unit (s := S2x512x256) o S1x128x64.size h)).write (Elt F) f w Finset.univ

variable (K V : Vec F S2x4x128x64 .bf16)

def kF1 : Vec F S2x512x256 .bf16 := kPut k0_pay2 ![0, 0, 0] inb_S2x512x256_S1x128x64_0_0_0 (k0_pay4 (kHead K ![0, 0, 0, 0] inb_S2x4x128x64_S1x1x128x64_0_0_0_0))
def kF3 : Vec F S2x512x256 .bf16 :=
  kPut (kPut (kF1 K) ![0, 128, 64] inb_S2x512x256_S1x128x64_0_128_64 (k0_pay6 (kHead K ![0, 1, 0, 0] inb_S2x4x128x64_S1x1x128x64_0_1_0_0)))
    ![0, 256, 128] inb_S2x512x256_S1x128x64_0_256_128 (k0_pay8 (kHead K ![0, 2, 0, 0] inb_S2x4x128x64_S1x1x128x64_0_2_0_0))
def kF5 : Vec F S2x512x256 .bf16 :=
  kPut (kPut (kF3 K) ![0, 384, 192] inb_S2x512x256_S1x128x64_0_384_192 (k0_pay11 (kHead K ![0, 3, 0, 0] inb_S2x4x128x64_S1x1x128x64_0_3_0_0)))
    ![1, 0, 0] inb_S2x512x256_S1x128x64_1_0_0 (k0_pay13 (kHead K ![1, 0, 0, 0] inb_S2x4x128x64_S1x1x128x64_1_0_0_0))
def kF7 : Vec F S2x512x256 .bf16 :=
  kPut (kPut (kF5 K) ![1, 128, 64] inb_S2x512x256_S1x128x64_1_128_64 (k0_pay15 (kHead K ![1, 1, 0, 0] inb_S2x4x128x64_S1x1x128x64_1_1_0_0)))
    ![1, 256, 128] inb_S2x512x256_S1x128x64_1_256_128 (k0_pay17 (kHead K ![1, 2, 0, 0] inb_S2x4x128x64_S1x1x128x64_1_2_0_0))
/-- The key buffer filled. -/
def kFill : Vec F S2x512x256 .bf16 :=
  kPut (kF7 K) ![1, 384, 192] inb_S2x512x256_S1x128x64_1_384_192 (k0_pay19 (kHead K ![1, 3, 0, 0] inb_S2x4x128x64_S1x1x128x64_1_3_0_0))

def vF2 : Vec F S2x512x256 .bf16 :=
  vPut (vPut k0_pay3 ![0, 0, 0] inb_S2x512x256_S1x128x64_0_0_0 (k0_pay5 (vHead V ![0, 0, 0, 0] inb_S2x4x128x64_S1x1x128x64_0_0_0_0)))
    ![0, 128, 64] inb_S2x512x256_S1x128x64_0_128_64 (k0_pay7 (vHead V ![0, 1, 0, 0] inb_S2x4x128x64_S1x1x128x64_0_1_0_0))
def vF5 : Vec F S2x512x256 .bf16 :=
  vPut (vPut (vPut (vF2 V) ![0, 256, 128] inb_S2x512x256_S1x128x64_0_256_128 (k0_pay10 (k0_pay9 (vHead V ![0, 2, 0, 0] inb_S2x4x128x64_S1x1x128x64_0_2_0_0))))
    ![0, 384, 192] inb_S2x512x256_S1x128x64_0_384_192 (k0_pay12 (vHead V ![0, 3, 0, 0] inb_S2x4x128x64_S1x1x128x64_0_3_0_0)))
    ![1, 0, 0] inb_S2x512x256_S1x128x64_1_0_0 (k0_pay14 (vHead V ![1, 0, 0, 0] inb_S2x4x128x64_S1x1x128x64_1_0_0_0))
def vF7 : Vec F S2x512x256 .bf16 :=
  vPut (vPut (vF5 V) ![1, 128, 64] inb_S2x512x256_S1x128x64_1_128_64 (k0_pay16 (vHead V ![1, 1, 0, 0] inb_S2x4x128x64_S1x1x128x64_1_1_0_0)))
    ![1, 256, 128] inb_S2x512x256_S1x128x64_1_256_128 (k0_pay18 (vHead V ![1, 2, 0, 0] inb_S2x4x128x64_S1x1x128x64_1_2_0_0))
/-- The value buffer filled. -/
def vFill : Vec F S2x512x256 .bf16 :=
  vPut (vF7 V) ![1, 384, 192] inb_S2x512x256_S1x128x64_1_384_192 (k0_pay20 (vHead V ![1, 3, 0, 0] inb_S2x4x128x64_S1x1x128x64_1_3_0_0))

/-! ## Rules for the two buffers and their sources -/

section Rules
variable {α : Type} (c : Dev nD)

theorem wp_kHead (o : Fin 4 → ℕ) (h : ∀ a, o a + S1x1x128x64.size a ≤ S2x4x128x64.size a)
    {hl : kM.view.LoadsAt (Rect.unit (s := S2x4x128x64) o S1x1x128x64.size h).toLoadRect}
    {k : Vec F S1x1x128x64 .bf16 → Prog (TpuEff nD τ sig (Elt F) Λ₀ .tc) α} {Q : α → sProp 𝕄} :
    (at_ c cc0_stg2_0 K : sProp 𝕄) ⊢ iprop((at_ c cc0_stg2_0 K -∗ wpb c (k (kHead K o h)) Q)
      -∗ wpb c (.op (.load kM (Rect.unit (s := S2x4x128x64) o S1x1x128x64.size h).toLoadRect hl) k) Q) := by
  exact wp_load (Γ := .empty) (defs := defs₀ (F := F)) 𝒱₀ (c : Thread nD τ) none Set.univ (m := kM) (r := (Rect.unit (s := S2x4x128x64) o S1x1x128x64.size h).toLoadRect) (f := K) (Finset.subset_univ _)

theorem wp_vHead (o : Fin 4 → ℕ) (h : ∀ a, o a + S1x1x128x64.size a ≤ S2x4x128x64.size a)
    {hl : vM.view.LoadsAt (Rect.unit (s := S2x4x128x64) o S1x1x128x64.size h).toLoadRect}
    {k : Vec F S1x1x128x64 .bf16 → Prog (TpuEff nD τ sig (Elt F) Λ₀ .tc) α} {Q : α → sProp 𝕄} :
    (at_ c cc0_stg3_0 V : sProp 𝕄) ⊢ iprop((at_ c cc0_stg3_0 V -∗ wpb c (k (vHead V o h)) Q)
      -∗ wpb c (.op (.load vM (Rect.unit (s := S2x4x128x64) o S1x1x128x64.size h).toLoadRect hl) k) Q) := by
  exact wp_load (Γ := .empty) (defs := defs₀ (F := F)) 𝒱₀ (c : Thread nD τ) none Set.univ (m := vM) (r := (Rect.unit (s := S2x4x128x64) o S1x1x128x64.size h).toLoadRect) (f := V) (Finset.subset_univ _)

/-- Some part of a buffer loaded, whatever it holds. -/
theorem wp_peek {s : Shape} {e : EltTy} (m : Memref sig .tc .vmem s e) (f : m.view.ref.ty.Contents (Elt F)) (r : LoadRect s)
    {hl : m.view.LoadsAt r} {k : Vec F r.shape e → Prog (TpuEff nD τ sig (Elt F) Λ₀ .tc) α} {Q : α → sProp 𝕄} :
    (at_ c m.view.ref f : sProp 𝕄) ⊢ iprop((at_ c m.view.ref f -∗ wpb c (k (m.view.readAt (Elt F) r f)) Q)
      -∗ wpb c (.op (.load m r hl) k) Q) :=
  wp_load (Γ := .empty) 𝒱₀ (c : Thread nD τ) none Set.univ (m := m) (Finset.subset_univ _)

theorem wp_kPut (f : Vec F S2x512x256 .bf16) (o : Fin 3 → ℕ) (h : ∀ a, o a + S1x128x64.size a ≤ S2x512x256.size a) (w : Vec F S1x128x64 .bf16)
    {hx : (kbM.access (Rect.unit (s := S2x512x256) o S1x128x64.size h)).Stores Finset.univ}
    {hm : (Finset.univ : Finset (Rect.unit (s := S2x512x256) o S1x128x64.size h).shape.Idx) = Finset.univ ∨ ∀ a, (Rect.unit (s := S2x512x256) o S1x128x64.size h).stride a = 1}
    {k : PUnit → Prog (TpuEff nD τ sig (Elt F) Λ₀ .tc) α} {Q : α → sProp 𝕄} :
    (at_ c cc0_scratch3 f : sProp 𝕄) ⊢ iprop((at_ c cc0_scratch3 (kPut f o h w) -∗ wpb c (k ⟨⟩) Q)
      -∗ wpb c (.op (.store kbM (Rect.unit (s := S2x512x256) o S1x128x64.size h) w Finset.univ hx hm) k) Q) := by
  exact wp_store (Γ := .empty) (Ix := Unit) (Name := ℕ) (U := UU) (Lvl := ℕ) (defs := defs₀ (F := F)) 𝒱₀ (c : Thread nD τ) none Set.univ (m := kbM) (r := Rect.unit (s := S2x512x256) o S1x128x64.size h) (w := w) (hx := hx) (hm := hm) (k := k) (Q := Q)
    (S := Finset.univ) (f := f) (Finset.subset_univ _)

theorem wp_vPut (f : Vec F S2x512x256 .bf16) (o : Fin 3 → ℕ) (h : ∀ a, o a + S1x128x64.size a ≤ S2x512x256.size a) (w : Vec F S1x128x64 .bf16)
    {hx : (vbM.access (Rect.unit (s := S2x512x256) o S1x128x64.size h)).Stores Finset.univ}
    {hm : (Finset.univ : Finset (Rect.unit (s := S2x512x256) o S1x128x64.size h).shape.Idx) = Finset.univ ∨ ∀ a, (Rect.unit (s := S2x512x256) o S1x128x64.size h).stride a = 1}
    {k : PUnit → Prog (TpuEff nD τ sig (Elt F) Λ₀ .tc) α} {Q : α → sProp 𝕄} :
    (at_ c cc0_scratch4 f : sProp 𝕄) ⊢ iprop((at_ c cc0_scratch4 (vPut f o h w) -∗ wpb c (k ⟨⟩) Q)
      -∗ wpb c (.op (.store vbM (Rect.unit (s := S2x512x256) o S1x128x64.size h) w Finset.univ hx hm) k) Q) := by
  exact wp_store (Γ := .empty) (Ix := Unit) (Name := ℕ) (U := UU) (Lvl := ℕ) (defs := defs₀ (F := F)) 𝒱₀ (c : Thread nD τ) none Set.univ (m := vbM) (r := Rect.unit (s := S2x512x256) o S1x128x64.size h) (w := w) (hx := hx) (hm := hm) (k := k) (Q := Q)
    (S := Finset.univ) (f := f) (Finset.subset_univ _)

end Rules

theorem wpb_ret {α : Type} (c : Dev nD) (a : α) {Q : α → sProp 𝕄} : Q a ⊢ wpb c (.ret a) Q := by
  show Q a ⊢ wp frame (wpE (defs₀ (F := F)) 𝒱₀ c none) Set.univ (.ret a) Q
  rw [wp_ret]
  iintro H; imodintro; iexact H

/-- The half of the filled key buffer that batch `b` uses. -/
def kRow (o : Fin 3 → ℕ) (h : ∀ a, o a + S1x512x256.size a ≤ S2x512x256.size a) : Vec F S1x512x256 .bf16 :=
  kbM.view.readAt (Elt F) (Rect.unit (s := S2x512x256) o S1x512x256.size h).toLoadRect (kFill K)
/-- The half of the filled value buffer that batch `b` uses. -/
def vRow (o : Fin 3 → ℕ) (h : ∀ a, o a + S1x512x256.size a ≤ S2x512x256.size a) : Vec F S1x512x256 .bf16 :=
  vbM.view.readAt (Elt F) (Rect.unit (s := S2x512x256) o S1x512x256.size h).toLoadRect (vFill V)

theorem wp_kRow {α : Type} (c : Dev nD) (o : Fin 3 → ℕ) (h : ∀ a, o a + S1x512x256.size a ≤ S2x512x256.size a)
    {hl : kbM.view.LoadsAt (Rect.unit (s := S2x512x256) o S1x512x256.size h).toLoadRect}
    {k : Vec F S1x512x256 .bf16 → Prog (TpuEff nD τ sig (Elt F) Λ₀ .tc) α} {Q : α → sProp 𝕄} :
    (at_ c cc0_scratch3 (kFill K) : sProp 𝕄) ⊢ iprop((at_ c cc0_scratch3 (kFill K) -∗ wpb c (k (kRow K o h)) Q)
      -∗ wpb c (.op (.load kbM (Rect.unit (s := S2x512x256) o S1x512x256.size h).toLoadRect hl) k) Q) :=
  wp_peek c kbM (kFill K) _

theorem wp_vRow {α : Type} (c : Dev nD) (o : Fin 3 → ℕ) (h : ∀ a, o a + S1x512x256.size a ≤ S2x512x256.size a)
    {hl : vbM.view.LoadsAt (Rect.unit (s := S2x512x256) o S1x512x256.size h).toLoadRect}
    {k : Vec F S1x512x256 .bf16 → Prog (TpuEff nD τ sig (Elt F) Λ₀ .tc) α} {Q : α → sProp 𝕄} :
    (at_ c cc0_scratch4 (vFill V) : sProp 𝕄) ⊢ iprop((at_ c cc0_scratch4 (vFill V) -∗ wpb c (k (vRow V o h)) Q)
      -∗ wpb c (.op (.load vbM (Rect.unit (s := S2x512x256) o S1x512x256.size h).toLoadRect hl) k) Q) :=
  wp_peek c vbM (vFill V) _

/-! ## The parts that only fill -/

section Parts
variable (c : Dev nD)

theorem wp_part2 {Q : FVec F S128x64 .bf16 → sProp 𝕄} :
    iprop(at_ c cc0_stg2_0 K ∗ at_ c cc0_stg3_0 V ∗ at_ c cc0_scratch3 (kF1 K) ∗ at_ c cc0_scratch4 (k0_pay3 : Vec F S2x512x256 .bf16))
      ⊢ iprop(((at_ c cc0_stg2_0 K ∗ at_ c cc0_stg3_0 V ∗ at_ c cc0_scratch3 (kF3 K) ∗ at_ c cc0_scratch4 (vF2 V))
          -∗ Q (k0_pay9 (vHead V ![0, 2, 0, 0] inb_S2x4x128x64_S1x1x128x64_0_2_0_0)))
        -∗ wpb c (k0_part2 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _)) Q) := by
  rw [k0_part2_eq_skeleton]
  unfold k0_part2_skel
  simp only [Prog.lift, Prog.bind_op, Prog.bind_ret, Prog.pure_eq_ret]
  iintro ⟨HK, HV, Hk, Hv⟩ Hc
  iapply (wp_vHead V c _ _) $$ HV; iintro HV
  iapply (wp_peek c vbM _ _) $$ Hv; iintro Hv
  iapply (wp_vPut c _ _ _ _) $$ Hv; iintro Hv
  iapply (wp_kHead K c _ _) $$ HK; iintro HK
  iapply (wp_peek c kbM _ _) $$ Hk; iintro Hk
  iapply (wp_kPut c _ _ _ _) $$ Hk; iintro Hk
  iapply (wp_vHead V c _ _) $$ HV; iintro HV
  iapply (wp_peek c vbM _ _) $$ Hv; iintro Hv
  iapply (wp_vPut c _ _ _ _) $$ Hv; iintro Hv
  iapply (wp_kHead K c _ _) $$ HK; iintro HK
  iapply (wp_peek c kbM _ _) $$ Hk; iintro Hk
  iapply (wp_kPut c _ _ _ _) $$ Hk; iintro Hk
  iapply (wp_vHead V c _ _) $$ HV; iintro HV
  iapply (wpb_ret c)
  iapply Hc
  isplitl [HK]; · iexact HK
  isplitl [HV]; · iexact HV
  isplitl [Hk]; · iexact Hk
  iexact Hv

theorem wp_part3 {Q : PUnit → sProp 𝕄} :
    iprop(at_ c cc0_stg2_0 K ∗ at_ c cc0_stg3_0 V ∗ at_ c cc0_scratch3 (kF3 K) ∗ at_ c cc0_scratch4 (vF2 V))
      ⊢ iprop(((at_ c cc0_stg2_0 K ∗ at_ c cc0_stg3_0 V ∗ at_ c cc0_scratch3 (kF5 K) ∗ at_ c cc0_scratch4 (vF5 V))
          -∗ Q ⟨⟩)
        -∗ wpb c (k0_part3 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) (k0_pay9 (vHead V ![0, 2, 0, 0] inb_S2x4x128x64_S1x1x128x64_0_2_0_0))) Q) := by
  rw [k0_part3_eq_skeleton]
  unfold k0_part3_skel
  simp only [Prog.lift, Prog.bind_op, Prog.bind_ret, Prog.pure_eq_ret]
  iintro ⟨HK, HV, Hk, Hv⟩ Hc
  iapply (wp_peek c vbM _ _) $$ Hv; iintro Hv
  iapply (wp_vPut c _ _ _ _) $$ Hv; iintro Hv
  iapply (wp_kHead K c _ _) $$ HK; iintro HK
  iapply (wp_peek c kbM _ _) $$ Hk; iintro Hk
  iapply (wp_kPut c _ _ _ _) $$ Hk; iintro Hk
  iapply (wp_vHead V c _ _) $$ HV; iintro HV
  iapply (wp_peek c vbM _ _) $$ Hv; iintro Hv
  iapply (wp_vPut c _ _ _ _) $$ Hv; iintro Hv
  iapply (wp_kHead K c _ _) $$ HK; iintro HK
  iapply (wp_peek c kbM _ _) $$ Hk; iintro Hk
  iapply (wp_kPut c _ _ _ _) $$ Hk; iintro Hk
  iapply (wp_vHead V c _ _) $$ HV; iintro HV
  iapply (wp_peek c vbM _ _) $$ Hv; iintro Hv
  iapply (wp_vPut c _ _ _ _) $$ Hv; iintro Hv
  iapply (wpb_ret c)
  iapply Hc
  isplitl [HK]; · iexact HK
  isplitl [HV]; · iexact HV
  isplitl [Hk]; · iexact Hk
  iexact Hv

theorem wp_part4 {Q : FVec F S1x128x64 .bf16 → sProp 𝕄} :
    iprop(at_ c cc0_stg2_0 K ∗ at_ c cc0_stg3_0 V ∗ at_ c cc0_scratch3 (kF5 K) ∗ at_ c cc0_scratch4 (vF5 V))
      ⊢ iprop(((at_ c cc0_stg2_0 K ∗ at_ c cc0_stg3_0 V ∗ at_ c cc0_scratch3 (kF7 K) ∗ at_ c cc0_scratch4 (vF7 V))
          -∗ Q (k0_pay19 (kHead K ![1, 3, 0, 0] inb_S2x4x128x64_S1x1x128x64_1_3_0_0)))
        -∗ wpb c (k0_part4 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _)) Q) := by
  rw [k0_part4_eq_skeleton]
  unfold k0_part4_skel
  simp only [Prog.lift, Prog.bind_op, Prog.bind_ret, Prog.pure_eq_ret]
  iintro ⟨HK, HV, Hk, Hv⟩ Hc
  iapply (wp_kHead K c _ _) $$ HK; iintro HK
  iapply (wp_peek c kbM _ _) $$ Hk; iintro Hk
  iapply (wp_kPut c _ _ _ _) $$ Hk; iintro Hk
  iapply (wp_vHead V c _ _) $$ HV; iintro HV
  iapply (wp_peek c vbM _ _) $$ Hv; iintro Hv
  iapply (wp_vPut c _ _ _ _) $$ Hv; iintro Hv
  iapply (wp_kHead K c _ _) $$ HK; iintro HK
  iapply (wp_peek c kbM _ _) $$ Hk; iintro Hk
  iapply (wp_kPut c _ _ _ _) $$ Hk; iintro Hk
  iapply (wp_vHead V c _ _) $$ HV; iintro HV
  iapply (wp_peek c vbM _ _) $$ Hv; iintro Hv
  iapply (wp_vPut c _ _ _ _) $$ Hv; iintro Hv
  iapply (wp_kHead K c _ _) $$ HK; iintro HK
  iapply (wp_peek c kbM _ _) $$ Hk; iintro Hk
  iapply (wpb_ret c)
  iapply Hc
  isplitl [HK]; · iexact HK
  isplitl [HV]; · iexact HV
  isplitl [Hk]; · iexact Hk
  iexact Hv

theorem wp_part5 {Q : (Σ' (_ : IVec S512x256 32) (_ : IVec S512x256 32) (_ : BitVec 32) (_ : IVec S512x256 32) (_ : IVec S512x256 32), BitVec 32) → sProp 𝕄} :
    iprop(at_ c cc0_stg2_0 K ∗ at_ c cc0_stg3_0 V ∗ at_ c cc0_scratch3 (kF7 K) ∗ at_ c cc0_scratch4 (vF7 V))
      ⊢ iprop(((at_ c cc0_stg2_0 K ∗ at_ c cc0_stg3_0 V ∗ at_ c cc0_scratch3 (kFill K) ∗ at_ c cc0_scratch4 (vFill V))
          -∗ Q ⟨k0_pay21, iota .tc S512x256 32 [1] iota_S512x256_d1_w32, 64#32, k0_pay22, k0_pay23, 0#32⟩)
        -∗ wpb c (k0_part5 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) (k0_pay19 (kHead K ![1, 3, 0, 0] inb_S2x4x128x64_S1x1x128x64_1_3_0_0))) Q) := by
  rw [k0_part5_eq_skeleton]
  unfold k0_part5_skel
  simp only [Prog.lift, Prog.bind_op, Prog.bind_ret, Prog.pure_eq_ret]
  iintro ⟨HK, HV, Hk, Hv⟩ Hc
  iapply (wp_kPut c _ _ _ _) $$ Hk; iintro Hk
  iapply (wp_vHead V c _ _) $$ HV; iintro HV
  iapply (wp_peek c vbM _ _) $$ Hv; iintro Hv
  iapply (wp_vPut c _ _ _ _) $$ Hv; iintro Hv
  iapply (wpb_ret c)
  iapply Hc
  isplitl [HK]; · iexact HK
  isplitl [HV]; · iexact HV
  isplitl [Hk]; · iexact Hk
  iexact Hv

theorem wp_part6 (X : Vec F S2x128x512 .bf16) (Wq : Vec F S512x256 .bf16) (Wo : Vec F S256x512 .bf16)
    (a b : IVec S512x256 32) (n : BitVec 32) (d e : IVec S512x256 32) (z : BitVec 32) {Q : (Σ' (_ : FVec F S512x256 .bf16) (_ : FVec F S256x256 .f32) (_ : FVec F S256x512 .bf16) (_ : FVec F S64x512 .bf16) (_ : FVec F S64x256 .f32), FVec F S64x256 .f32) → sProp 𝕄} :
    iprop(at_ c cc0_stg0_0 X ∗ at_ c cc0_stg1_0 Wq ∗ at_ c cc0_stg4_0 Wo ∗ at_ c cc0_scratch3 (kFill K) ∗ at_ c cc0_scratch4 (vFill V))
      ⊢ iprop(((at_ c cc0_stg0_0 X ∗ at_ c cc0_stg1_0 Wq ∗ at_ c cc0_stg4_0 Wo ∗ at_ c cc0_scratch3 (kFill K) ∗ at_ c cc0_scratch4 (vFill V))
          -∗ Q ⟨k0_pay24 a b n d e z, k0_pay25 X Wq, k0_pay26 Wo, k0_pay27 X Wq (kRow K ![0, 0, 0] inb_S2x512x256_S1x512x256_0_0_0), k0_pay28 X Wq (kRow K ![0, 0, 0] inb_S2x512x256_S1x512x256_0_0_0) (vRow V ![0, 0, 0] inb_S2x512x256_S1x512x256_0_0_0), constant S64x256 .f32 0x00000000#32⟩)
        -∗ wpb c (k0_part6 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) a b n d e z) Q) := by
  rw [k0_part6_eq_skeleton]
  unfold k0_part6_skel
  simp only [Prog.lift, Prog.bind_op, Prog.bind_ret, Prog.pure_eq_ret]
  iintro ⟨Hx, Hq, Hw, Hk, Hv⟩ Hc
  iapply (wp_peek c xM _ _) $$ Hx; iintro Hx
  rw [show xM.view.readAt (Elt F) (Rect.unit (s := S2x128x512) ![0, 0, 0] S2x128x512.size inb_S2x128x512_S2x128x512_0_0_0).toLoadRect X = X from
    Memref.readAt_unit_zero (Elt F) cc0_stg0_0 (funext fun a => by fin_cases a <;> rfl) _ X]
  iapply (wp_peek c qM _ _) $$ Hq; iintro Hq
  rw [show qM.view.readAt (Elt F) (Rect.unit (s := S512x256) ![0, 0] S512x256.size inb_S512x256_S512x256_0_0).toLoadRect Wq = Wq from
    Memref.readAt_unit_zero (Elt F) cc0_stg1_0 (funext fun a => by fin_cases a <;> rfl) _ Wq]
  iapply (wp_peek c wM _ _) $$ Hw; iintro Hw
  rw [show wM.view.readAt (Elt F) (Rect.unit (s := S256x512) ![0, 0] S256x512.size inb_S256x512_S256x512_0_0).toLoadRect Wo = Wo from
    Memref.readAt_unit_zero (Elt F) cc0_stg4_0 (funext fun a => by fin_cases a <;> rfl) _ Wo]
  iapply (wp_kRow K c _ _) $$ Hk; iintro Hk
  iapply (wp_vRow V c _ _) $$ Hv; iintro Hv
  iapply (wpb_ret c)
  iapply Hc
  isplitl [Hx]; · iexact Hx
  isplitl [Hq]; · iexact Hq
  isplitl [Hw]; · iexact Hw
  isplitl [Hk]; · iexact Hk
  iexact Hv

end Parts

end Cert.KernelIdeal.Exchange

end
-- ==== Proof.Body.lean ====
module

public import proofs.«01_k».proof.Proof.Fill

/-! The parts of the kernel body that signal, transfer and add, each from what it needs to what it leaves. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices the kernel addresses -/

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 3 c := by revert c; decide +kernel
theorem dev7_eq (c : Dev nD) : (⟨k0_dev7 c, k0_dev7_lt c⟩ : Dev nD) = peer 4 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 6 c := by revert c; decide +kernel
theorem dev10_eq (c : Dev nD) : (⟨k0_dev10 c, k0_dev10_lt c⟩ : Dev nD) = peer 7 c := by revert c; decide +kernel

variable (ct : Dev nD → Fin 8 → Vec F S1x1x64x512 .bf16) (κ : GSem nD τ sig → ℕ)

/-! ## What a device gives its partners -/

/-- The slot transfer `j` from the partner lands in, at some value. -/
def mine (c : Dev nD) (j : Fin 8) : sProp 𝕄 := iprop(∃ v, slotPts c (dstRow j) (chOf j) v)
/-- Round 0 of all its receive cells is reached. -/
def marks (c : Dev nD) : sProp 𝕄 := bigSep Finset.univ fun j : Fin 8 => reached ER (recvCell c j) 0

instance marks_persistent (c : Dev nD) : BI.Persistent (marks (F := F) c) := by unfold marks; infer_instance

theorem landing_of (c : Dev nD) (j : Fin 8) : iprop(mine c j ∗ marks c) ⊢ (landing (peer j c) j : sProp 𝕄) := by
  unfold mine landing marks
  rw [peer_peer]
  iintro ⟨H, #Hm⟩
  isplitl [H]; · iexact H
  iapply (show (bigSep Finset.univ fun j : Fin 8 => (reached ER (recvCell c j) 0 : sProp 𝕄)) ⊢ reached ER (recvCell c j) 0 from bigSep_elim (Finset.mem_univ j))
  iexact Hm

theorem barPay_false_of (c : Dev nD) : iprop(marks c ∗ mine c 0 ∗ mine c 1 ∗ mine c 6 ∗ mine c 7) ⊢ (barPay (p1 c) false : sProp 𝕄) := by
  have h0 : (landing (peer 0 c) 0 : sProp 𝕄) = landing (p1 c) 0 := rfl
  have h1 : (landing (peer 1 c) 1 : sProp 𝕄) = landing (p1 c) 1 := rfl
  have h6 : (landing (peer 6 c) 6 : sProp 𝕄) = landing (p1 c) 6 := rfl
  have h7 : (landing (peer 7 c) 7 : sProp 𝕄) = landing (p1 c) 7 := rfl
  unfold barPay
  rw [← h0, ← h1, ← h6, ← h7]
  iintro ⟨#Hm, H0, H1, H6, H7⟩
  isplitl [H0]; · iapply (landing_of c 0); isplitl [H0] <;> iassumption
  isplitl [H1]; · iapply (landing_of c 1); isplitl [H1] <;> iassumption
  isplitl [H6]; · iapply (landing_of c 6); isplitl [H6] <;> iassumption
  iapply (landing_of c 7); isplitl [H7] <;> iassumption

theorem barPay_true_of (c : Dev nD) : iprop(marks c ∗ mine c 2 ∗ mine c 3 ∗ mine c 4 ∗ mine c 5) ⊢ (barPay (p2 c) true : sProp 𝕄) := by
  have h0 : (landing (peer 2 c) 2 : sProp 𝕄) = landing (p2 c) 2 := rfl
  have h1 : (landing (peer 3 c) 3 : sProp 𝕄) = landing (p2 c) 3 := rfl
  have h6 : (landing (peer 4 c) 4 : sProp 𝕄) = landing (p2 c) 4 := rfl
  have h7 : (landing (peer 5 c) 5 : sProp 𝕄) = landing (p2 c) 5 := rfl
  unfold barPay
  rw [← h0, ← h1, ← h6, ← h7]
  iintro ⟨#Hm, H0, H1, H6, H7⟩
  isplitl [H0]; · iapply (landing_of c 2); isplitl [H0] <;> iassumption
  isplitl [H1]; · iapply (landing_of c 3); isplitl [H1] <;> iassumption
  isplitl [H6]; · iapply (landing_of c 4); isplitl [H6] <;> iassumption
  iapply (landing_of c 5); isplitl [H7] <;> iassumption

/-! ## The first part: the two signals and the first fills -/

theorem write_kAll (f w : Vec F S2x512x256 .bf16) :
    (kbM.access (Rect.unit (s := S2x512x256) ![0, 0, 0] S2x512x256.size inb_S2x512x256_S2x512x256_0_0_0)).write (Elt F) f w Finset.univ = w :=
  Memref.write_access_unit_zero_univ (Elt F) cc0_scratch3 (funext fun a => by fin_cases a <;> rfl) _ f w
theorem write_vAll (f w : Vec F S2x512x256 .bf16) :
    (vbM.access (Rect.unit (s := S2x512x256) ![0, 0, 0] S2x512x256.size inb_S2x512x256_S2x512x256_0_0_0)).write (Elt F) f w Finset.univ = w :=
  Memref.write_access_unit_zero_univ (Elt F) cc0_scratch4 (funext fun a => by fin_cases a <;> rfl) _ f w

theorem wp_kAll {α : Type} (c : Dev nD) (f w : Vec F S2x512x256 .bf16)
    {hx : (kbM.access (Rect.unit (s := S2x512x256) ![0, 0, 0] S2x512x256.size inb_S2x512x256_S2x512x256_0_0_0)).Stores Finset.univ} {hm : (Finset.univ : Finset (Rect.unit (s := S2x512x256) ![0, 0, 0] S2x512x256.size inb_S2x512x256_S2x512x256_0_0_0).shape.Idx) = Finset.univ ∨ ∀ a, (Rect.unit (s := S2x512x256) ![0, 0, 0] S2x512x256.size inb_S2x512x256_S2x512x256_0_0_0).stride a = 1}
    {k : PUnit → Prog (TpuEff nD τ sig (Elt F) Λ₀ .tc) α} {Q : α → sProp 𝕄} :
    (at_ c cc0_scratch3 f : sProp 𝕄) ⊢ iprop((at_ c cc0_scratch3 w -∗ wpb c (k ⟨⟩) Q)
      -∗ wpb c (.op (.store kbM (Rect.unit (s := S2x512x256) ![0, 0, 0] S2x512x256.size inb_S2x512x256_S2x512x256_0_0_0) w Finset.univ hx hm) k) Q) := by
  have h := wp_store (Γ := .empty) (Ix := Unit) (Name := ℕ) (U := UU) (Lvl := ℕ) (defs := defs₀ (F := F)) 𝒱₀ (c : Thread nD τ) none Set.univ (m := kbM) (r := (Rect.unit (s := S2x512x256) ![0, 0, 0] S2x512x256.size inb_S2x512x256_S2x512x256_0_0_0)) (w := w) (hx := hx) (hm := hm) (k := k) (Q := Q)
    (S := Finset.univ) (f := f) (Finset.subset_univ _)
  rw [write_kAll] at h
  exact h

theorem wp_vAll {α : Type} (c : Dev nD) (f w : Vec F S2x512x256 .bf16)
    {hx : (vbM.access (Rect.unit (s := S2x512x256) ![0, 0, 0] S2x512x256.size inb_S2x512x256_S2x512x256_0_0_0)).Stores Finset.univ} {hm : (Finset.univ : Finset (Rect.unit (s := S2x512x256) ![0, 0, 0] S2x512x256.size inb_S2x512x256_S2x512x256_0_0_0).shape.Idx) = Finset.univ ∨ ∀ a, (Rect.unit (s := S2x512x256) ![0, 0, 0] S2x512x256.size inb_S2x512x256_S2x512x256_0_0_0).stride a = 1}
    {k : PUnit → Prog (TpuEff nD τ sig (Elt F) Λ₀ .tc) α} {Q : α → sProp 𝕄} :
    (at_ c cc0_scratch4 f : sProp 𝕄) ⊢ iprop((at_ c cc0_scratch4 w -∗ wpb c (k ⟨⟩) Q)
      -∗ wpb c (.op (.store vbM (Rect.unit (s := S2x512x256) ![0, 0, 0] S2x512x256.size inb_S2x512x256_S2x512x256_0_0_0) w Finset.univ hx hm) k) Q) := by
  have h := wp_store (Γ := .empty) (Ix := Unit) (Name := ℕ) (U := UU) (Lvl := ℕ) (defs := defs₀ (F := F)) 𝒱₀ (c : Thread nD τ) none Set.univ (m := vbM) (r := (Rect.unit (s := S2x512x256) ![0, 0, 0] S2x512x256.size inb_S2x512x256_S2x512x256_0_0_0)) (w := w) (hx := hx) (hm := hm) (k := k) (Q := Q)
    (S := Finset.univ) (f := f) (Finset.subset_univ _)
  rw [write_vAll] at h
  exact h

/-- The two partner numbers as the words the program computes. -/
abbrev w6 (c : Dev nD) : BitVec 32 :=
  Scalar.subi (Scalar.addi (Scalar.remsi (Scalar.divsi (Dev.word c) 1#32) 4#32) 1#32)
    (Scalar.muli 2#32 (Scalar.remsi (Scalar.remsi (Scalar.divsi (Dev.word c) 1#32) 4#32) 2#32))
abbrev w7 (c : Dev nD) : BitVec 32 := Scalar.subi 3#32 (Scalar.remsi (Scalar.divsi (Dev.word c) 1#32) 4#32)

theorem wp_part1 (c : Dev nD) (K : Vec F S2x4x128x64 .bf16) (f g : Vec F S2x512x256 .bf16)
    {Q : (Σ' (_ : Dev nD) (_ : BitVec 32) (_ : BitVec 32), Sems sig S_) → sProp 𝕄} :
    iprop(records ct κ ∗ marks c ∗ (∃ W, owes (c : Thread nD τ) (O₀ c) W)
        ∗ dutyTok ER (barCell (p1 c)) 0 false ∗ dutyTok ER (barCell (p2 c)) 0 true
        ∗ (mine c 0 ∗ mine c 1 ∗ mine c 2 ∗ mine c 3 ∗ mine c 4 ∗ mine c 5 ∗ mine c 6 ∗ mine c 7)
        ∗ at_ c cc0_stg2_0 K ∗ at_ c cc0_scratch3 f ∗ at_ c cc0_scratch4 g)
      ⊢ iprop(((owing c [0, 1, 2, 3, 4, 5, 6, 7] ∗ at_ c cc0_stg2_0 K ∗ at_ c cc0_scratch3 (kF1 K) ∗ at_ c cc0_scratch4 (k0_pay3 : Vec F S2x512x256 .bf16))
          -∗ Q ⟨c, w6 c, w7 c, SemArray.scalar (sig.barrier 0 rfl)⟩)
        -∗ wpb c (k0_part1 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _)) Q) := by
  rw [k0_part1_eq_skeleton]
  unfold k0_part1_skel
  simp only [semSignalWord, Prog.lift, Prog.bind_op, Prog.bind_ret, Prog.pure_eq_ret, wp_deviceId]
  iintro ⟨#HR, #Hm, ⟨%W, HO⟩, Ht1, Ht2, ⟨H0, H1, H2, H3, H4, H5, H6, H7⟩, HK, Hk, Hv⟩ Hc
  simp only [dev1_eq c, dev2_eq c]
  iapply (Rounds.wp_signal 𝒱₀ ER (Rd ct) (c : Thread nD τ) none (dst := (p1 c : Thread nD τ)) (κ := κ (barCell (p1 c)))
      (d := false) (by rw [duties_bar]; exact Finset.mem_univ _) ((amount_bar ct (p1 c) false).trans (by decide)) ()
      (owe c [0, 1, 2, 3, 4, 5, 6, 7] + tallyAt (barCell (p2 c)) () 1) rfl) $$ [HO Ht1 H0 H1 H6 H7]
  · isplitr; · iapply (records_bar ct κ (p1 c)); iexact HR
    isplitl [HO]; · iexact HO
    isplitl [Ht1]; · iexact Ht1
    isplitl [H0 H1 H6 H7]
    · rw [payload_bar]
      iapply (barPay_false_of c)
      isplitr; · iexact Hm
      isplitl [H0]; · iexact H0
      isplitl [H1]; · iexact H1
      isplitl [H6] <;> iassumption
    · iapply (records_reached ct κ (p1 c)); iexact HR
  iintro HO
  iapply (Rounds.wp_signal 𝒱₀ ER (Rd ct) (c : Thread nD τ) none (dst := (p2 c : Thread nD τ)) (κ := κ (barCell (p2 c)))
      (d := true) (by rw [duties_bar]; exact Finset.mem_univ _) ((amount_bar ct (p2 c) true).trans (by decide)) ()
      (owe c [0, 1, 2, 3, 4, 5, 6, 7]) rfl) $$ [HO Ht2 H2 H3 H4 H5]
  · isplitr; · iapply (records_bar ct κ (p2 c)); iexact HR
    isplitl [HO]; · iexact HO
    isplitl [Ht2]; · iexact Ht2
    isplitl [H2 H3 H4 H5]
    · rw [payload_bar]
      iapply (barPay_true_of c)
      isplitr; · iexact Hm
      isplitl [H2]; · iexact H2
      isplitl [H3]; · iexact H3
      isplitl [H4] <;> iassumption
    · iapply (records_reached ct κ (p2 c)); iexact HR
  iintro HO
  iapply (wp_peek c kbM _ _) $$ Hk; iintro Hk
  iapply (wp_kAll c _ _) $$ Hk; iintro Hk
  iapply (wp_peek c vbM _ _) $$ Hv; iintro Hv
  iapply (wp_vAll c _ _) $$ Hv; iintro Hv
  iapply (wp_kHead K c _ _) $$ HK; iintro HK
  iapply (wp_peek c kbM _ _) $$ Hk; iintro Hk
  iapply (wp_kPut c _ _ _ _) $$ Hk; iintro Hk
  iapply (wpb_ret c)
  iapply Hc
  isplitl [HO]; · unfold owing; iexists W; iexact HO
  isplitl [HK]; · iexact HK
  isplitl [Hk]; · iexact Hk
  iexact Hv

end Cert.KernelIdeal.Exchange

end
-- ==== Proof.Steps.lean ====
module

public import proofs.«01_k».proof.Proof.Body

/-! The parts of the kernel body that transfer and add, each from what it needs to what it leaves. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ct : Dev nD → Fin 8 → Vec F S1x1x64x512 .bf16) (κ : GSem nD τ sig → ℕ)

/-- The result buffer with the chunk at `o` overwritten. -/
def oPut (f : Vec F S2x128x512 .bf16) (o : Fin 3 → ℕ) (h : ∀ a, o a + S1x64x512.size a ≤ S2x128x512.size a) (w : Vec F S1x64x512 .bf16) : Vec F S2x128x512 .bf16 :=
  (oM.access (Rect.unit (s := S2x128x512) o S1x64x512.size h)).write (Elt F) f w Finset.univ

theorem wp_oPut {α : Type} (c : Dev nD) (f : Vec F S2x128x512 .bf16) (o : Fin 3 → ℕ) (h : ∀ a, o a + S1x64x512.size a ≤ S2x128x512.size a) (w : Vec F S1x64x512 .bf16)
    {hx : (oM.access (Rect.unit (s := S2x128x512) o S1x64x512.size h)).Stores Finset.univ}
    {hm : (Finset.univ : Finset (Rect.unit (s := S2x128x512) o S1x64x512.size h).shape.Idx) = Finset.univ ∨ ∀ a, (Rect.unit (s := S2x128x512) o S1x64x512.size h).stride a = 1}
    {k : PUnit → Prog (TpuEff nD τ sig (Elt F) Λ₀ .tc) α} {Q : α → sProp 𝕄} :
    (at_ c cc0_stg5_0 f : sProp 𝕄) ⊢ iprop((at_ c cc0_stg5_0 (oPut f o h w) -∗ wpb c (k ⟨⟩) Q)
      -∗ wpb c (.op (.store oM (Rect.unit (s := S2x128x512) o S1x64x512.size h) w Finset.univ hx hm) k) Q) := by
  exact wp_store (Γ := .empty) (Ix := Unit) (Name := ℕ) (U := UU) (Lvl := ℕ) (defs := defs₀ (F := F)) 𝒱₀ (c : Thread nD τ) none Set.univ (m := oM) (r := Rect.unit (s := S2x128x512) o S1x64x512.size h) (w := w) (hx := hx) (hm := hm) (k := k) (Q := Q)
    (S := Finset.univ) (f := f) (Finset.subset_univ _)

/-- Slot `ch` of row `r` at some value. -/
def slotAny (c : Dev nD) (r ch : ℕ) : sProp 𝕄 := iprop(∃ v, slotPts c r ch v)

variable (c : Dev nD) (K V : Vec F S2x4x128x64 .bf16)

theorem owing_of (l : List (Fin 8)) (W : Waits sig Unit) : (owes (c : Thread nD τ) (owe c l) W : sProp 𝕄) ⊢ owing c l := by
  unfold owing; iintro H; iexists W; iexact H
theorem owing_open (l : List (Fin 8)) : (owing c l : sProp 𝕄) ⊢ iprop(∃ W, owes (c : Thread nD τ) (owe c l) W) := .rfl

theorem wp_part7 (v6 : BitVec 32) (v154 : FVec F S512x256 .bf16) (v162 : FVec F S256x256 .f32) (v164 : FVec F S256x512 .bf16) (v171 : FVec F S64x512 .bf16) (v174 cst : FVec F S64x256 .f32) (h : k0_pay29 v154 v164 v171 v174 cst = ct c 0) {Q : (Σ' (_ : FVec F S64x256 .f32), FVec F S64x256 .f32) → sProp 𝕄} :
    iprop(records ct κ
        ∗ levAts L lv
        ∗ slotAny c 0 0
        ∗ atPos ER (barCell c) 0 ∅ 0
        ∗ cred (tallyAt (barCell c) () 2)
        ∗ tx c 0
        ∗ owing c [0, 1, 2, 3, 4, 5, 6, 7]
        ∗ at_ c cc0_scratch3 (kFill K)
        ∗ at_ c cc0_scratch4 (vFill V))
      ⊢ iprop(((fl c 0
          ∗ landing c 1
          ∗ landing c 2
          ∗ landing c 3
          ∗ landing c 4
          ∗ landing c 5
          ∗ landing c 6
          ∗ landing c 7
          ∗ atPos ER (barCell c) (0 + 1) ∅ 0
          ∗ owing c [1, 2, 3, 4, 5, 6, 7]
          ∗ at_ c cc0_scratch3 (kFill K)
          ∗ at_ c cc0_scratch4 (vFill V))
          -∗ Q ⟨k0_pay31 v162 (kRow K ![0, 0, 0] inb_S2x512x256_S1x512x256_0_0_0) (vRow V ![0, 0, 0] inb_S2x512x256_S1x512x256_0_0_0), k0_pay32 v154 v162 (kRow K ![0, 0, 0] inb_S2x512x256_S1x512x256_0_0_0)⟩)
        -∗ wpb c (k0_part7 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v6 (SemArray.scalar (sig.barrier 0 rfl)) v154 v162 v164 v171 v174 cst) Q) := by
  rw [k0_part7_eq_skeleton]
  unfold k0_part7_skel
  simp only [semWaitWord, Prog.lift, Prog.bind_op, Prog.bind_ret, Prog.pure_eq_ret]
  unfold slotAny
  iintro ⟨#HR, #Hl, ⟨%v00, H00⟩, HaB, HcB, Htx, HO, Hk, Hv⟩ Hc
  iapply (wp_slot_load 0 0 _ c _) $$ H00; iintro H00
  iapply (wp_slot_store 0 0 _ c _ _) $$ H00; iintro H00
  rw [h]
  ihave HO := (owing_open c _) $$ HO
  icases HO with ⟨%W, HO⟩
  iapply (Rounds.wp_wait_rest_token 𝒱₀ ER (Rd ct) (c : Thread nD τ) none (κ := κ (barCell c))
      (wpE_semWait_eq 𝒱₀ (c : Thread nD τ) none Set.univ) (Set.mem_univ _) () (O := owe c [0, 1, 2, 3, 4, 5, 6, 7]) (W := W) (R := 0) (m := 0) (T := ∅)
      (by rw [expect_bar]; decide)) $$ [HcB HO HaB]
  · isplitr; · iapply (records_bar ct κ c); iexact HR
    isplitl [HcB]; · iexact HcB
    isplitl [HO]; · iexact HO
    isplitr; · iapply (mayWait c (.reg barS) [0, 1, 2, 3, 4, 5, 6, 7] (by decide)); iexact Hl
    iexact HaB
  iintro ⟨HO, HaB, -, Hpay⟩
  ihave Hp := (Entails.of_eq (rest_bar ct c)) $$ Hpay
  unfold barPay
  icases Hp with ⟨⟨HL, HL1, HL6, HL7⟩, HL2, HL3, HL4, HL5⟩
  ihave HO := (owing_of c _ _) $$ HO
  iapply (wp_start ct κ c 0 [1, 2, 3, 4, 5, 6, 7] _ (dev3_eq c) 0 0 1 0 rfl rfl rfl rfl _ _ _ _ rfl rfl) $$ [H00 Htx HL HO]
  · isplitr; · iexact HR
    isplitl [H00]; · iexact H00
    isplitl [Htx]; · iexact Htx
    isplitl [HL]; · iexact HL
    iexact HO
  iintro ⟨Hf0, HO⟩
  iapply (wp_kRow K c _ _) $$ Hk; iintro Hk
  iapply (wp_vRow V c _ _) $$ Hv; iintro Hv
  iapply (wpb_ret c)
  iapply Hc
  isplitl [Hf0]; · iexact Hf0
  isplitl [HL1]; · iexact HL1
  isplitl [HL2]; · iexact HL2
  isplitl [HL3]; · iexact HL3
  isplitl [HL4]; · iexact HL4
  isplitl [HL5]; · iexact HL5
  isplitl [HL6]; · iexact HL6
  isplitl [HL7]; · iexact HL7
  isplitl [HaB]; · iexact HaB
  isplitl [HO]; · iexact HO
  isplitl [Hk]; · iexact Hk
  iexact Hv

theorem wp_part8 (v6 : BitVec 32) (v154 : FVec F S512x256 .bf16) (v162 : FVec F S256x256 .f32) (v164 : FVec F S256x512 .bf16) (v202 v203 : FVec F S64x256 .f32) (h : k0_pay33 v164 v202 v203 = ct c 1) {Q : FVec F S64x512 .f32 → sProp 𝕄} :
    iprop(records ct κ
        ∗ levAts L lv
        ∗ slotAny c 0 1
        ∗ tx c 1
        ∗ landing c 1
        ∗ owing c [1, 2, 3, 4, 5, 6, 7]
        ∗ at_ c cc0_scratch3 (kFill K)
        ∗ at_ c cc0_scratch4 (vFill V))
      ⊢ iprop(((fl c 1
          ∗ owing c [2, 3, 4, 5, 6, 7]
          ∗ at_ c cc0_scratch3 (kFill K)
          ∗ at_ c cc0_scratch4 (vFill V))
          -∗ Q (k0_pay34 v154 v162 v164 (kRow K ![1, 0, 0] inb_S2x512x256_S1x512x256_1_0_0) (vRow V ![1, 0, 0] inb_S2x512x256_S1x512x256_1_0_0)))
        -∗ wpb c (k0_part8 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v6 v154 v162 v164 v202 v203) Q) := by
  rw [k0_part8_eq_skeleton]
  unfold k0_part8_skel
  simp only [semWaitWord, Prog.lift, Prog.bind_op, Prog.bind_ret, Prog.pure_eq_ret]
  unfold slotAny
  iintro ⟨#HR, #Hl, ⟨%v01, H01⟩, Htx, HL, HO, Hk, Hv⟩ Hc
  iapply (wp_slot_load 0 1 _ c _) $$ H01; iintro H01
  iapply (wp_slot_store 0 1 _ c _ _) $$ H01; iintro H01
  rw [h]
  iapply (wp_start ct κ c 1 [2, 3, 4, 5, 6, 7] _ (dev4_eq c) 0 1 1 1 rfl rfl rfl rfl _ _ _ _ rfl rfl) $$ [H01 Htx HL HO]
  · isplitr; · iexact HR
    isplitl [H01]; · iexact H01
    isplitl [Htx]; · iexact Htx
    isplitl [HL]; · iexact HL
    iexact HO
  iintro ⟨Hf1, HO⟩
  iapply (wp_kRow K c _ _) $$ Hk; iintro Hk
  iapply (wp_vRow V c _ _) $$ Hv; iintro Hv
  iapply (wpb_ret c)
  iapply Hc
  isplitl [Hf1]; · iexact Hf1
  isplitl [HO]; · iexact HO
  isplitl [Hk]; · iexact Hk
  iexact Hv

theorem wp_part9 (v7 : BitVec 32) (v154 : FVec F S512x256 .bf16) (v162 : FVec F S256x256 .f32) (v164 : FVec F S256x512 .bf16) (v234 : FVec F S64x512 .f32) (h : k0_pay35 v234 = ct c 2) {Q : FVec F S64x512 .bf16 → sProp 𝕄} :
    iprop(records ct κ
        ∗ levAts L lv
        ∗ slotAny c 0 2
        ∗ tx c 2
        ∗ landing c 2
        ∗ owing c [2, 3, 4, 5, 6, 7]
        ∗ at_ c cc0_scratch3 (kFill K)
        ∗ at_ c cc0_scratch4 (vFill V))
      ⊢ iprop(((fl c 2
          ∗ owing c [3, 4, 5, 6, 7]
          ∗ at_ c cc0_scratch3 (kFill K)
          ∗ at_ c cc0_scratch4 (vFill V))
          -∗ Q (k0_pay36 v154 v162 v164 (kRow K ![1, 0, 0] inb_S2x512x256_S1x512x256_1_0_0) (vRow V ![1, 0, 0] inb_S2x512x256_S1x512x256_1_0_0)))
        -∗ wpb c (k0_part9 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v7 v154 v162 v164 v234) Q) := by
  rw [k0_part9_eq_skeleton]
  unfold k0_part9_skel
  simp only [semWaitWord, Prog.lift, Prog.bind_op, Prog.bind_ret, Prog.pure_eq_ret]
  unfold slotAny
  iintro ⟨#HR, #Hl, ⟨%v02, H02⟩, Htx, HL, HO, Hk, Hv⟩ Hc
  iapply (wp_slot_load 0 2 _ c _) $$ H02; iintro H02
  iapply (wp_slot_store 0 2 _ c _ _) $$ H02; iintro H02
  rw [h]
  iapply (wp_start ct κ c 2 [3, 4, 5, 6, 7] _ (dev5_eq c) 0 2 1 2 rfl rfl rfl rfl _ _ _ _ rfl rfl) $$ [H02 Htx HL HO]
  · isplitr; · iexact HR
    isplitl [H02]; · iexact H02
    isplitl [Htx]; · iexact Htx
    isplitl [HL]; · iexact HL
    iexact HO
  iintro ⟨Hf2, HO⟩
  iapply (wp_kRow K c _ _) $$ Hk; iintro Hk
  iapply (wp_vRow V c _ _) $$ Hv; iintro Hv
  iapply (wpb_ret c)
  iapply Hc
  isplitl [Hf2]; · iexact Hf2
  isplitl [HO]; · iexact HO
  isplitl [Hk]; · iexact Hk
  iexact Hv

theorem wp_part10 (v6 v7 : BitVec 32) (v263 : FVec F S64x512 .bf16) (h : k0_pay37 v263 = ct c 3) {Q : PUnit → sProp 𝕄} :
    iprop(records ct κ
        ∗ levAts L lv
        ∗ slotAny c 0 3
        ∗ tx c 3
        ∗ landing c 3
        ∗ fl c 0
        ∗ owing c [3, 4, 5, 6, 7])
      ⊢ iprop(((fl c 3
          ∗ sn c 0
          ∗ slotPts c 0 0 (ct c 0)
          ∗ owing c [4, 5, 6, 7])
          -∗ Q ⟨⟩)
        -∗ wpb c (k0_part10 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v6 v7 v263) Q) := by
  rw [k0_part10_eq_skeleton]
  unfold k0_part10_skel
  simp only [semWaitWord, Prog.lift, Prog.bind_op, Prog.bind_ret, Prog.pure_eq_ret]
  unfold slotAny
  iintro ⟨#HR, #Hl, ⟨%v03, H03⟩, Htx, HL, Hf0, HO⟩ Hc
  iapply (wp_slot_load 0 3 _ c _) $$ H03; iintro H03
  iapply (wp_slot_store 0 3 _ c _ _) $$ H03; iintro H03
  rw [h]
  iapply (wp_start ct κ c 3 [4, 5, 6, 7] _ (dev6_eq c) 0 3 1 3 rfl rfl rfl rfl _ _ _ _ rfl rfl) $$ [H03 Htx HL HO]
  · isplitr; · iexact HR
    isplitl [H03]; · iexact H03
    isplitl [Htx]; · iexact Htx
    isplitl [HL]; · iexact HL
    iexact HO
  iintro ⟨Hf3, HO⟩
  iapply (wp_wait_send ct κ c 0 [4, 5, 6, 7] (by decide) 0 0 1 0 rfl rfl _ _ _ rfl) $$ [Hf0 HO]
  · isplitr; · iexact HR
    isplitr; · iexact Hl
    isplitl [Hf0]; · iexact Hf0
    iexact HO
  iintro ⟨H00, Hf0, HO⟩
  iapply (wpb_ret c)
  iapply Hc
  isplitl [Hf3]; · iexact Hf3
  isplitl [Hf0]; · iexact Hf0
  isplitl [H00]; · iexact H00
  iexact HO

theorem wp_part11 (v7 : BitVec 32) (h : k0_pay38 (ct c 0) (ct (peer 0 c) 0) = ct c 4) {Q : PUnit → sProp 𝕄} :
    iprop(records ct κ
        ∗ levAts L lv
        ∗ sn c 0
        ∗ slotPts c 0 0 (ct c 0)
        ∗ slotAny c 2 0
        ∗ tx c 4
        ∗ landing c 4
        ∗ owing c [4, 5, 6, 7])
      ⊢ iprop(((dn c 0
          ∗ slotPts c 0 0 (ct c 0)
          ∗ slotPts c 1 0 (ct (peer 0 c) 0)
          ∗ fl c 4
          ∗ owing c [5, 6, 7])
          -∗ Q ⟨⟩)
        -∗ wpb c (k0_part11 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v7) Q) := by
  rw [k0_part11_eq_skeleton]
  unfold k0_part11_skel
  simp only [semWaitWord, Prog.lift, Prog.bind_op, Prog.bind_ret, Prog.pure_eq_ret]
  unfold slotAny
  iintro ⟨#HR, #Hl, Hf0, H00, ⟨%v20, H20⟩, Htx, HL, HO⟩ Hc
  iapply (wp_wait_recv ct κ c 0 [4, 5, 6, 7] (by decide) 1 0 0 0 rfl rfl _ _ _ rfl) $$ [Hf0 HO]
  · isplitr; · iexact HR
    isplitr; · iexact Hl
    isplitl [Hf0]; · iexact Hf0
    iexact HO
  iintro ⟨H10, Hf0, HO⟩
  iapply (wp_slot_load 0 0 _ c _) $$ H00; iintro H00
  iapply (wp_slot_load 1 0 _ c _) $$ H10; iintro H10
  iapply (wp_slot_load 2 0 _ c _) $$ H20; iintro H20
  iapply (wp_slot_store 2 0 _ c _ _) $$ H20; iintro H20
  rw [h]
  iapply (wp_start ct κ c 4 [5, 6, 7] _ (dev7_eq c) 2 0 3 0 rfl rfl rfl rfl _ _ _ _ rfl rfl) $$ [H20 Htx HL HO]
  · isplitr; · iexact HR
    isplitl [H20]; · iexact H20
    isplitl [Htx]; · iexact Htx
    isplitl [HL]; · iexact HL
    iexact HO
  iintro ⟨Hf4, HO⟩
  iapply (wpb_ret c)
  iapply Hc
  isplitl [Hf0]; · iexact Hf0
  isplitl [H00]; · iexact H00
  isplitl [H10]; · iexact H10
  isplitl [Hf4]; · iexact Hf4
  iexact HO

theorem wp_part12 (v6 v7 : BitVec 32) (h : k0_pay39 (ct c 1) (ct (peer 1 c) 1) = ct c 5) {Q : (Σ' (_ : BitVec 32), BitVec 32) → sProp 𝕄} :
    iprop(records ct κ
        ∗ levAts L lv
        ∗ fl c 1
        ∗ slotAny c 2 1
        ∗ owing c [5, 6, 7])
      ⊢ iprop(((dn c 1
          ∗ slotPts c 0 1 (ct c 1)
          ∗ slotPts c 1 1 (ct (peer 1 c) 1)
          ∗ slotPts c 2 1 (ct c 5)
          ∗ owing c [5, 6, 7])
          -∗ Q ⟨Scalar.muli v7 1#32, 0#32⟩)
        -∗ wpb c (k0_part12 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) v6 v7) Q) := by
  rw [k0_part12_eq_skeleton]
  unfold k0_part12_skel
  simp only [semWaitWord, Prog.lift, Prog.bind_op, Prog.bind_ret, Prog.pure_eq_ret]
  unfold slotAny
  iintro ⟨#HR, #Hl, Hf1, ⟨%v21, H21⟩, HO⟩ Hc
  iapply (wp_wait_send ct κ c 1 [5, 6, 7] (by decide) 0 1 1 1 rfl rfl _ _ _ rfl) $$ [Hf1 HO]
  · isplitr; · iexact HR
    isplitr; · iexact Hl
    isplitl [Hf1]; · iexact Hf1
    iexact HO
  iintro ⟨H01, Hf1, HO⟩
  iapply (wp_wait_recv ct κ c 1 [5, 6, 7] (by decide) 1 1 0 1 rfl rfl _ _ _ rfl) $$ [Hf1 HO]
  · isplitr; · iexact HR
    isplitr; · iexact Hl
    isplitl [Hf1]; · iexact Hf1
    iexact HO
  iintro ⟨H11, Hf1, HO⟩
  iapply (wp_slot_load 0 1 _ c _) $$ H01; iintro H01
  iapply (wp_slot_load 1 1 _ c _) $$ H11; iintro H11
  iapply (wp_slot_load 2 1 _ c _) $$ H21; iintro H21
  iapply (wp_slot_store 2 1 _ c _ _) $$ H21; iintro H21
  rw [h]
  iapply (wpb_ret c)
  iapply Hc
  isplitl [Hf1]; · iexact Hf1
  isplitl [H01]; · iexact H01
  isplitl [H11]; · iexact H11
  isplitl [H21]; · iexact H21
  iexact HO

theorem wp_part13 (v7 v331 z : BitVec 32)  {Q : FVec F S64x512 .bf16 → sProp 𝕄} :
    iprop(records ct κ
        ∗ levAts L lv
        ∗ slotPts c 2 1 (ct c 5)
        ∗ tx c 5
        ∗ landing c 5
        ∗ fl c 2
        ∗ owing c [5, 6, 7])
      ⊢ iprop(((fl c 5
          ∗ dn c 2
          ∗ slotPts c 0 2 (ct c 2)
          ∗ slotPts c 1 2 (ct (peer 2 c) 2)
          ∗ owing c [6, 7])
          -∗ Q (k0_pay40 (ct c 2)))
        -∗ wpb c (k0_part13 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v7 v331 z) Q) := by
  rw [k0_part13_eq_skeleton]
  unfold k0_part13_skel
  simp only [semWaitWord, Prog.lift, Prog.bind_op, Prog.bind_ret, Prog.pure_eq_ret]
  iintro ⟨#HR, #Hl, H21, Htx, HL, Hf2, HO⟩ Hc
  iapply (wp_start ct κ c 5 [6, 7] _ (dev8_eq c) 2 1 3 1 rfl rfl rfl rfl _ _ _ _ rfl rfl) $$ [H21 Htx HL HO]
  · isplitr; · iexact HR
    isplitl [H21]; · iexact H21
    isplitl [Htx]; · iexact Htx
    isplitl [HL]; · iexact HL
    iexact HO
  iintro ⟨Hf5, HO⟩
  iapply (wp_wait_send ct κ c 2 [6, 7] (by decide) 0 2 1 2 rfl rfl _ _ _ rfl) $$ [Hf2 HO]
  · isplitr; · iexact HR
    isplitr; · iexact Hl
    isplitl [Hf2]; · iexact Hf2
    iexact HO
  iintro ⟨H02, Hf2, HO⟩
  iapply (wp_wait_recv ct κ c 2 [6, 7] (by decide) 1 2 0 2 rfl rfl _ _ _ rfl) $$ [Hf2 HO]
  · isplitr; · iexact HR
    isplitr; · iexact Hl
    isplitl [Hf2]; · iexact Hf2
    iexact HO
  iintro ⟨H12, Hf2, HO⟩
  iapply (wp_slot_load 0 2 _ c _) $$ H02; iintro H02
  iapply (wpb_ret c)
  iapply Hc
  isplitl [Hf5]; · iexact Hf5
  isplitl [Hf2]; · iexact Hf2
  isplitl [H02]; · iexact H02
  isplitl [H12]; · iexact H12
  iexact HO

theorem wp_part14 (v6 : BitVec 32) (h : k0_pay41 (k0_pay40 (ct c 2)) (ct (peer 2 c) 2) = ct c 6) {Q : PUnit → sProp 𝕄} :
    iprop(records ct κ
        ∗ levAts L lv
        ∗ slotPts c 1 2 (ct (peer 2 c) 2)
        ∗ slotAny c 2 2
        ∗ tx c 6
        ∗ landing c 6
        ∗ fl c 3
        ∗ owing c [6, 7])
      ⊢ iprop(((slotPts c 1 2 (ct (peer 2 c) 2)
          ∗ fl c 6
          ∗ sn c 3
          ∗ slotPts c 0 3 (ct c 3)
          ∗ owing c [7])
          -∗ Q ⟨⟩)
        -∗ wpb c (k0_part14 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v6 (k0_pay40 (ct c 2))) Q) := by
  rw [k0_part14_eq_skeleton]
  unfold k0_part14_skel
  simp only [semWaitWord, Prog.lift, Prog.bind_op, Prog.bind_ret, Prog.pure_eq_ret]
  unfold slotAny
  iintro ⟨#HR, #Hl, H12, ⟨%v22, H22⟩, Htx, HL, Hf3, HO⟩ Hc
  iapply (wp_slot_load 1 2 _ c _) $$ H12; iintro H12
  iapply (wp_slot_load 2 2 _ c _) $$ H22; iintro H22
  iapply (wp_slot_store 2 2 _ c _ _) $$ H22; iintro H22
  rw [h]
  iapply (wp_start ct κ c 6 [7] _ (dev9_eq c) 2 2 3 2 rfl rfl rfl rfl _ _ _ _ rfl rfl) $$ [H22 Htx HL HO]
  · isplitr; · iexact HR
    isplitl [H22]; · iexact H22
    isplitl [Htx]; · iexact Htx
    isplitl [HL]; · iexact HL
    iexact HO
  iintro ⟨Hf6, HO⟩
  iapply (wp_wait_send ct κ c 3 [7] (by decide) 0 3 1 3 rfl rfl _ _ _ rfl) $$ [Hf3 HO]
  · isplitr; · iexact HR
    isplitr; · iexact Hl
    isplitl [Hf3]; · iexact Hf3
    iexact HO
  iintro ⟨H03, Hf3, HO⟩
  iapply (wpb_ret c)
  iapply Hc
  isplitl [H12]; · iexact H12
  isplitl [Hf6]; · iexact Hf6
  isplitl [Hf3]; · iexact Hf3
  isplitl [H03]; · iexact H03
  iexact HO

theorem wp_part15 (v6 v7 : BitVec 32) (h : k0_pay42 (ct c 3) (ct (peer 3 c) 3) = ct c 7) {Q : PUnit → sProp 𝕄} :
    iprop(records ct κ
        ∗ levAts L lv
        ∗ sn c 3
        ∗ slotPts c 0 3 (ct c 3)
        ∗ slotAny c 2 3
        ∗ tx c 7
        ∗ landing c 7
        ∗ owing c [7])
      ⊢ iprop(((dn c 3
          ∗ slotPts c 0 3 (ct c 3)
          ∗ slotPts c 1 3 (ct (peer 3 c) 3)
          ∗ fl c 7
          ∗ owing c [])
          -∗ Q ⟨⟩)
        -∗ wpb c (k0_part15 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) c v6 v7) Q) := by
  rw [k0_part15_eq_skeleton]
  unfold k0_part15_skel
  simp only [semWaitWord, Prog.lift, Prog.bind_op, Prog.bind_ret, Prog.pure_eq_ret]
  unfold slotAny
  iintro ⟨#HR, #Hl, Hf3, H03, ⟨%v23, H23⟩, Htx, HL, HO⟩ Hc
  iapply (wp_wait_recv ct κ c 3 [7] (by decide) 1 3 0 3 rfl rfl _ _ _ rfl) $$ [Hf3 HO]
  · isplitr; · iexact HR
    isplitr; · iexact Hl
    isplitl [Hf3]; · iexact Hf3
    iexact HO
  iintro ⟨H13, Hf3, HO⟩
  iapply (wp_slot_load 0 3 _ c _) $$ H03; iintro H03
  iapply (wp_slot_load 1 3 _ c _) $$ H13; iintro H13
  iapply (wp_slot_load 2 3 _ c _) $$ H23; iintro H23
  iapply (wp_slot_store 2 3 _ c _ _) $$ H23; iintro H23
  rw [h]
  iapply (wp_start ct κ c 7 [] _ (dev10_eq c) 2 3 3 3 rfl rfl rfl rfl _ _ _ _ rfl rfl) $$ [H23 Htx HL HO]
  · isplitr; · iexact HR
    isplitl [H23]; · iexact H23
    isplitl [Htx]; · iexact Htx
    isplitl [HL]; · iexact HL
    iexact HO
  iintro ⟨Hf7, HO⟩
  iapply (wpb_ret c)
  iapply Hc
  isplitl [Hf3]; · iexact Hf3
  isplitl [H03]; · iexact H03
  isplitl [H13]; · iexact H13
  isplitl [Hf7]; · iexact Hf7
  iexact HO

theorem wp_part16 (v7 : BitVec 32) (f : Vec F S2x128x512 .bf16)  {Q : PUnit → sProp 𝕄} :
    iprop(records ct κ
        ∗ levAts L lv
        ∗ fl c 4
        ∗ at_ c cc0_stg5_0 f
        ∗ owing c [])
      ⊢ iprop(((dn c 4
          ∗ slotPts c 2 0 (ct c 4)
          ∗ slotPts c 3 0 (ct (peer 4 c) 4)
          ∗ at_ c cc0_stg5_0 (oPut f ![0, 0, 0] inb_S2x128x512_S1x64x512_0_0_0 (k0_pay43 (ct c 4) (ct (peer 4 c) 4)))
          ∗ owing c [])
          -∗ Q ⟨⟩)
        -∗ wpb c (k0_part16 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) v7) Q) := by
  rw [k0_part16_eq_skeleton]
  unfold k0_part16_skel
  simp only [semWaitWord, Prog.lift, Prog.bind_op, Prog.bind_ret, Prog.pure_eq_ret]
  iintro ⟨#HR, #Hl, Hf4, Ho, HO⟩ Hc
  iapply (wp_wait_send ct κ c 4 [] (by decide) 2 0 3 0 rfl rfl _ _ _ rfl) $$ [Hf4 HO]
  · isplitr; · iexact HR
    isplitr; · iexact Hl
    isplitl [Hf4]; · iexact Hf4
    iexact HO
  iintro ⟨H20, Hf4, HO⟩
  iapply (wp_wait_recv ct κ c 4 [] (by decide) 3 0 2 0 rfl rfl _ _ _ rfl) $$ [Hf4 HO]
  · isplitr; · iexact HR
    isplitr; · iexact Hl
    isplitl [Hf4]; · iexact Hf4
    iexact HO
  iintro ⟨H30, Hf4, HO⟩
  iapply (wp_slot_load 2 0 _ c _) $$ H20; iintro H20
  iapply (wp_slot_load 3 0 _ c _) $$ H30; iintro H30
  iapply (wp_peek c oM _ _) $$ Ho; iintro Ho
  iapply (wp_oPut c _ _ _ _) $$ Ho; iintro Ho
  iapply (wpb_ret c)
  iapply Hc
  isplitl [Hf4]; · iexact Hf4
  isplitl [H20]; · iexact H20
  isplitl [H30]; · iexact H30
  isplitl [Ho]; · iexact Ho
  iexact HO

theorem wp_part17 (v7 : BitVec 32) (f : Vec F S2x128x512 .bf16)  {Q : PUnit → sProp 𝕄} :
    iprop(records ct κ
        ∗ levAts L lv
        ∗ fl c 5
        ∗ at_ c cc0_stg5_0 f
        ∗ owing c [])
      ⊢ iprop(((dn c 5
          ∗ slotPts c 2 1 (ct c 5)
          ∗ slotPts c 3 1 (ct (peer 5 c) 5)
          ∗ at_ c cc0_stg5_0 (oPut f ![0, 64, 0] inb_S2x128x512_S1x64x512_0_64_0 (k0_pay44 (ct c 5) (ct (peer 5 c) 5)))
          ∗ owing c [])
          -∗ Q ⟨⟩)
        -∗ wpb c (k0_part17 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) v7) Q) := by
  rw [k0_part17_eq_skeleton]
  unfold k0_part17_skel
  simp only [semWaitWord, Prog.lift, Prog.bind_op, Prog.bind_ret, Prog.pure_eq_ret]
  iintro ⟨#HR, #Hl, Hf5, Ho, HO⟩ Hc
  iapply (wp_wait_send ct κ c 5 [] (by decide) 2 1 3 1 rfl rfl _ _ _ rfl) $$ [Hf5 HO]
  · isplitr; · iexact HR
    isplitr; · iexact Hl
    isplitl [Hf5]; · iexact Hf5
    iexact HO
  iintro ⟨H21, Hf5, HO⟩
  iapply (wp_wait_recv ct κ c 5 [] (by decide) 3 1 2 1 rfl rfl _ _ _ rfl) $$ [Hf5 HO]
  · isplitr; · iexact HR
    isplitr; · iexact Hl
    isplitl [Hf5]; · iexact Hf5
    iexact HO
  iintro ⟨H31, Hf5, HO⟩
  iapply (wp_slot_load 2 1 _ c _) $$ H21; iintro H21
  iapply (wp_slot_load 3 1 _ c _) $$ H31; iintro H31
  iapply (wp_peek c oM _ _) $$ Ho; iintro Ho
  iapply (wp_oPut c _ _ _ _) $$ Ho; iintro Ho
  iapply (wpb_ret c)
  iapply Hc
  isplitl [Hf5]; · iexact Hf5
  isplitl [H21]; · iexact H21
  isplitl [H31]; · iexact H31
  isplitl [Ho]; · iexact Ho
  iexact HO

theorem wp_part18 (v6 : BitVec 32) (f : Vec F S2x128x512 .bf16)  {Q : PUnit → sProp 𝕄} :
    iprop(records ct κ
        ∗ levAts L lv
        ∗ fl c 6
        ∗ at_ c cc0_stg5_0 f
        ∗ owing c [])
      ⊢ iprop(((dn c 6
          ∗ slotPts c 2 2 (ct c 6)
          ∗ slotPts c 3 2 (ct (peer 6 c) 6)
          ∗ at_ c cc0_stg5_0 (oPut f ![1, 0, 0] inb_S2x128x512_S1x64x512_1_0_0 (k0_pay45 (ct c 6) (ct (peer 6 c) 6)))
          ∗ owing c [])
          -∗ Q ⟨⟩)
        -∗ wpb c (k0_part18 (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _) v6) Q) := by
  rw [k0_part18_eq_skeleton]
  unfold k0_part18_skel
  simp only [semWaitWord, Prog.lift, Prog.bind_op, Prog.bind_ret, Prog.pure_eq_ret]
  iintro ⟨#HR, #Hl, Hf6, Ho, HO⟩ Hc
  iapply (wp_wait_send ct κ c 6 [] (by decide) 2 2 3 2 rfl rfl _ _ _ rfl) $$ [Hf6 HO]
  · isplitr; · iexact HR
    isplitr; · iexact Hl
    isplitl [Hf6]; · iexact Hf6
    iexact HO
  iintro ⟨H22, Hf6, HO⟩
  iapply (wp_wait_recv ct κ c 6 [] (by decide) 3 2 2 2 rfl rfl _ _ _ rfl) $$ [Hf6 HO]
  · isplitr; · iexact HR
    isplitr; · iexact Hl
    isplitl [Hf6]; · iexact Hf6
    iexact HO
  iintro ⟨H32, Hf6, HO⟩
  iapply (wp_slot_load 2 2 _ c _) $$ H22; iintro H22
  iapply (wp_slot_load 3 2 _ c _) $$ H32; iintro H32
  iapply (wp_peek c oM _ _) $$ Ho; iintro Ho
  iapply (wp_oPut c _ _ _ _) $$ Ho; iintro Ho
  iapply (wpb_ret c)
  iapply Hc
  isplitl [Hf6]; · iexact Hf6
  isplitl [H22]; · iexact H22
  isplitl [H32]; · iexact H32
  isplitl [Ho]; · iexact Ho
  iexact HO

end Cert.KernelIdeal.Exchange

end
-- ==== Proof.Whole.lean ====
module

public import proofs.«01_k».proof.Proof.Steps

/-! The whole kernel body on one device: what each transfer carries, and the body from its holdings to its result. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The exchange buffer as sixteen slots -/

theorem slots_cover : (Finset.univ : Finset (Fin 4 × Fin 4)).biUnion (fun p => slotSet p.1.val p.2.val) = Finset.univ := by
  ext i
  simp only [Finset.mem_biUnion, Finset.mem_univ, true_and, iff_true, slotSet, Finset.mem_filter]
  exact ⟨(i 0, i 1), rfl, rfl⟩

theorem slots_disjoint : ∀ p ∈ (Finset.univ : Finset (Fin 4 × Fin 4)), ∀ p' ∈ (Finset.univ : Finset (Fin 4 × Fin 4)), p ≠ p' →
    Disjoint (slotSet p.1.val p.2.val) (slotSet p'.1.val p'.2.val) := by
  intro p _ p' _ h
  rw [Finset.disjoint_left]
  intro i hi hi'
  simp only [slotSet, Finset.mem_filter, Finset.mem_univ, true_and] at hi hi'
  exact h (Prod.ext (Fin.ext (hi.1.symm.trans hi'.1)) (Fin.ext (hi.2.symm.trans hi'.2)))

theorem bigSep_four {M : Type} [URA M] (Φ : Fin 4 → sProp M) : bigSep Finset.univ Φ = iprop(Φ 0 ∗ Φ 1 ∗ Φ 2 ∗ Φ 3) := by
  rw [bigSep_univ_eq_bigSepL [(0 : Fin 4), 1, 2, 3] (by decide) (by decide) Φ]
  rfl

/-- Row `r` of the exchange buffer, its four slots at some values. -/
def rowAny (c : Dev nD) (r : ℕ) : sProp 𝕄 := iprop(slotAny c r 0 ∗ slotAny c r 1 ∗ slotAny c r 2 ∗ slotAny c r 3)

theorem rows_eq (c : Dev nD) : (bigSep Finset.univ fun p : Fin 4 × Fin 4 => (slotAny c p.1.val p.2.val : sProp 𝕄))
    = iprop(rowAny c 0 ∗ rowAny c 1 ∗ rowAny c 2 ∗ rowAny c 3) := by
  rw [bigSep_univ_prod, bigSep_four]
  simp only [bigSep_four]
  rfl

theorem slots_split (c : Dev nD) (f : S4x4x64x512.Idx → F .bf16) :
    (at_ c cc0_scratch0 f : sProp 𝕄) ⊢ iprop(rowAny c 0 ∗ rowAny c 1 ∗ rowAny c 2 ∗ rowAny c 3) := by
  rw [← rows_eq]
  have h : (at_ c cc0_scratch0 f : sProp 𝕄) = ((c : Thread nD τ).loc cc0_scratch0)
      ↦[(Finset.univ : Finset (Fin 4 × Fin 4)).biUnion fun p => slotSet p.1.val p.2.val]{fullShare} f := by rw [slots_cover]
  rw [h, pointsTo_biUnion _ _ slots_disjoint]
  refine bigSep_mono fun p _ => ?_
  unfold slotAny
  refine (slotPts_of p.1.val p.2.val (slot_inb _ _ p.1.isLt p.2.isLt) c f).trans ?_
  iintro H; iexists _; iexact H

theorem slotAny_open (c : Dev nD) (r ch : ℕ) : (slotAny c r ch : sProp 𝕄) ⊢ iprop(∃ f, ((c : Thread nD τ).loc cc0_scratch0) ↦[slotSet r ch]{fullShare} f) := by
  unfold slotAny slotPts
  iintro ⟨%v, H⟩; iexists _; iexact H

theorem slots_join (c : Dev nD) :
    iprop(rowAny c 0 ∗ rowAny c 1 ∗ rowAny c 2 ∗ rowAny c 3) ⊢ (iprop(∃ f, at_ c cc0_scratch0 f) : sProp 𝕄) := by
  rw [← rows_eq]
  refine (bigSep_mono fun p _ => slotAny_open c p.1.val p.2.val).trans ?_
  refine (bigSep_exists_pi Finset.univ _).trans ?_
  iintro ⟨%fs, H⟩
  ihave H' := (pointsTo_biUnion_join (ℓ := (c : Thread nD τ).loc cc0_scratch0) (q := fullShare) Finset.univ (fun p : Fin 4 × Fin 4 => slotSet p.1.val p.2.val) fs (fs (0, 0)) slots_disjoint) $$ H
  icases H' with ⟨%g, -, H⟩
  rw [slots_cover]
  iexists g; iexact H
/-! ## What each transfer carries -/

/-- A device's inputs: the activations, its columns of the query weights, its keys and values by head, its rows of the output weights. -/
structure Ins (F : FTy → Type) where
  x : Vec F S2x128x512 .bf16
  q : Vec F S512x256 .bf16
  k : Vec F S2x4x128x64 .bf16
  v : Vec F S2x4x128x64 .bf16
  w : Vec F S256x512 .bf16

/-- The matrix of ones on the diagonal blocks. -/
def ones : FVec F S512x256 .bf16 := k0_pay24 k0_pay21 (iota .tc S512x256 32 [1] iota_S512x256_d1_w32) 64#32 k0_pay22 k0_pay23 0#32

/-- A device's partial result on chunk 0, 1, 2 and 3. -/
def share0 (I : Ins F) : Vec F S1x1x64x512 .bf16 :=
  k0_pay29 ones (k0_pay26 I.w) (k0_pay27 I.x I.q (kRow I.k ![0, 0, 0] inb_S2x512x256_S1x512x256_0_0_0)) (k0_pay28 I.x I.q (kRow I.k ![0, 0, 0] inb_S2x512x256_S1x512x256_0_0_0) (vRow I.v ![0, 0, 0] inb_S2x512x256_S1x512x256_0_0_0)) (constant S64x256 .f32 0x00000000#32)
def share1 (I : Ins F) : Vec F S1x1x64x512 .bf16 :=
  k0_pay33 (k0_pay26 I.w) (k0_pay31 (k0_pay25 I.x I.q) (kRow I.k ![0, 0, 0] inb_S2x512x256_S1x512x256_0_0_0) (vRow I.v ![0, 0, 0] inb_S2x512x256_S1x512x256_0_0_0)) (k0_pay32 ones (k0_pay25 I.x I.q) (kRow I.k ![0, 0, 0] inb_S2x512x256_S1x512x256_0_0_0))
def share2 (I : Ins F) : Vec F S1x1x64x512 .bf16 :=
  k0_pay35 (k0_pay34 ones (k0_pay25 I.x I.q) (k0_pay26 I.w) (kRow I.k ![1, 0, 0] inb_S2x512x256_S1x512x256_1_0_0) (vRow I.v ![1, 0, 0] inb_S2x512x256_S1x512x256_1_0_0))
def share3 (I : Ins F) : Vec F S1x1x64x512 .bf16 :=
  k0_pay37 (k0_pay36 ones (k0_pay25 I.x I.q) (k0_pay26 I.w) (kRow I.k ![1, 0, 0] inb_S2x512x256_S1x512x256_1_0_0) (vRow I.v ![1, 0, 0] inb_S2x512x256_S1x512x256_1_0_0))

variable (In : Dev nD → Ins F)

/-- What device `c`'s transfer `j` carries: its own partial result, then the sum with the first partner's. -/
def ct (c : Dev nD) : Fin 8 → Vec F S1x1x64x512 .bf16
  | 0 => share0 (In c)
  | 1 => share1 (In c)
  | 2 => share2 (In c)
  | 3 => share3 (In c)
  | 4 => k0_pay38 (share0 (In c)) (share0 (In (peer 0 c)))
  | 5 => k0_pay38 (share1 (In c)) (share1 (In (peer 1 c)))
  | 6 => k0_pay38 (share2 (In c)) (share2 (In (peer 2 c)))
  | 7 => k0_pay38 (share3 (In c)) (share3 (In (peer 3 c)))

/-- The result's chunk that transfer `j` of the second round completes. -/
def chunk (c : Dev nD) (j : Fin 8) : Vec F S1x64x512 .bf16 := k0_pay43 (ct In c j) (ct In (peer j c) j)

/-- The result left in the result buffer over whatever was there. -/
def outOver (c : Dev nD) (f : Vec F S2x128x512 .bf16) : Vec F S2x128x512 .bf16 :=
  oPut (oPut (oPut (oPut f ![0, 0, 0] inb_S2x128x512_S1x64x512_0_0_0 (chunk In c 4)) ![0, 64, 0] inb_S2x128x512_S1x64x512_0_64_0 (chunk In c 5))
    ![1, 0, 0] inb_S2x128x512_S1x64x512_1_0_0 (chunk In c 6)) ![1, 64, 0] inb_S2x128x512_S1x64x512_1_64_0 (chunk In c 7)

/-! ## The body -/

variable (κ : GSem nD τ sig → ℕ) (c : Dev nD)

theorem wpb_bind {α β : Type} (p : Prog (TpuEff nD τ sig (Elt F) Λ₀ .tc) β) (k : β → Prog (TpuEff nD τ sig (Elt F) Λ₀ .tc) α) {Q : α → sProp 𝕄} :
    wpb c p (fun a => wpb c (k a) Q) ⊢ wpb c (p >>= k) Q := by
  show _ ⊢ wp frame (wpE (defs₀ (F := F)) 𝒱₀ c none) Set.univ (p >>= k) Q
  rw [wp_bind]

/-- The eight transfers at one stage. -/
def eight (Φ : Fin 8 → sProp 𝕄) : sProp 𝕄 := iprop(Φ 0 ∗ Φ 1 ∗ Φ 2 ∗ Φ 3 ∗ Φ 4 ∗ Φ 5 ∗ Φ 6 ∗ Φ 7)

/-- The input buffers at the device's inputs. -/
def inBufs (I : Ins F) : sProp 𝕄 :=
  iprop(at_ c cc0_stg0_0 I.x ∗ at_ c cc0_stg1_0 I.q ∗ at_ c cc0_stg2_0 I.k ∗ at_ c cc0_stg3_0 I.v ∗ at_ c cc0_stg4_0 I.w)

/-- What the body starts from. -/
def bodyPre (f : Vec F S2x128x512 .bf16) : sProp 𝕄 :=
  iprop(records (ct In) κ ∗ levAts L lv ∗ marks c ∗ (∃ W, owes (c : Thread nD τ) (O₀ c) W)
    ∗ dutyTok ER (barCell (p1 c)) 0 false ∗ dutyTok ER (barCell (p2 c)) 0 true
    ∗ atPos ER (barCell c) 0 ∅ 0 ∗ cred (tallyAt (barCell c) () 2) ∗ eight (tx c)
    ∗ ((∃ g, at_ c cc0_scratch0 g) ∗ (∃ g, at_ c cc0_scratch3 g) ∗ (∃ g, at_ c cc0_scratch4 g))
    ∗ inBufs c (In c) ∗ at_ c cc0_stg5_0 f)

/-- What the body leaves. -/
def bodyPost (f : Vec F S2x128x512 .bf16) : sProp 𝕄 :=
  iprop(atPos ER (barCell c) (0 + 1) ∅ 0 ∗ eight (dn c) ∗ owing c []
    ∗ ((∃ g, at_ c cc0_scratch0 g) ∗ (∃ g, at_ c cc0_scratch3 g) ∗ (∃ g, at_ c cc0_scratch4 g))
    ∗ inBufs c (In c) ∗ at_ c cc0_stg5_0 (outOver In c f))

theorem mine_of (j : Fin 8) : slotAny c (dstRow j) (chOf j) ⊢ (mine c j : sProp 𝕄) := .rfl
theorem any_of (r ch : ℕ) (v : Vec F S1x1x64x512 .bf16) : slotPts c r ch v ⊢ (slotAny c r ch : sProp 𝕄) := by
  unfold slotAny; iintro H; iexists v; iexact H

set_option maxHeartbeats 1600000 in
/-- The body on device `c`. -/
theorem wp_body (f : Vec F S2x128x512 .bf16) {Q : PUnit → sProp 𝕄} :
    bodyPre In κ c f ⊢ iprop((bodyPost In c f -∗ Q ⟨⟩) -∗ wpb c (cc0_body (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _)) Q) := by
  rw [cc0_body_eq_skeleton]
  unfold cc0_body_skel
  rw [k0_part19_eq_skeleton]
  unfold k0_part19_skel
  unfold bodyPre inBufs eight
  iintro ⟨#HR, #Hl, #Hm, HO, Ht1, Ht2, HaB, HcB, ⟨Hx0, Hx1, Hx2, Hx3, Hx4, Hx5, Hx6, Hx7⟩, ⟨⟨%g0, Hs⟩, ⟨%g1, Hk⟩, ⟨%g2, Hv⟩⟩, ⟨Hx, Hq, HK, HV, Hw⟩, Ho⟩ Hc
  ihave Hs := (slots_split c g0) $$ Hs
  unfold rowAny
  icases Hs with ⟨⟨H00, H01, H02, H03⟩, ⟨H10, H11, H12, H13⟩, ⟨H20, H21, H22, H23⟩, ⟨H30, H31, H32, H33⟩⟩
  iapply (wpb_bind c)
  iapply (wpb_bind c)
  iapply (wp_part1 (ct In) κ c (In c).k g1 g2) $$ [HO Ht1 Ht2 H10 H11 H12 H13 H30 H31 H32 H33 HK Hk Hv]
  · isplitr; · iexact HR
    isplitr; · iexact Hm
    isplitl [HO]; · iexact HO
    isplitl [Ht1]; · iexact Ht1
    isplitl [Ht2]; · iexact Ht2
    isplitl [H10 H11 H12 H13 H30 H31 H32 H33]
    · isplitl [H10]; · iapply (mine_of c 0); iexact H10
      isplitl [H11]; · iapply (mine_of c 1); iexact H11
      isplitl [H12]; · iapply (mine_of c 2); iexact H12
      isplitl [H13]; · iapply (mine_of c 3); iexact H13
      isplitl [H30]; · iapply (mine_of c 4); iexact H30
      isplitl [H31]; · iapply (mine_of c 5); iexact H31
      isplitl [H32]; · iapply (mine_of c 6); iexact H32
      iapply (mine_of c 7); iexact H33
    isplitl [HK]; · iexact HK
    isplitl [Hk]; · iexact Hk
    iexact Hv
  iintro ⟨HO, HK, Hk, Hv⟩
  dsimp only
  iapply (wpb_bind c)
  iapply (wp_part2 (In c).k (In c).v c) $$ [HK HV Hk Hv]
  · isplitl [HK]; · iexact HK
    isplitl [HV]; · iexact HV
    isplitl [Hk]; · iexact Hk
    iexact Hv
  iintro ⟨HK, HV, Hk, Hv⟩
  iapply (wpb_bind c)
  iapply (wp_part3 (In c).k (In c).v c) $$ [HK HV Hk Hv]
  · isplitl [HK]; · iexact HK
    isplitl [HV]; · iexact HV
    isplitl [Hk]; · iexact Hk
    iexact Hv
  iintro ⟨HK, HV, Hk, Hv⟩
  iapply (wpb_bind c)
  iapply (wp_part4 (In c).k (In c).v c) $$ [HK HV Hk Hv]
  · isplitl [HK]; · iexact HK
    isplitl [HV]; · iexact HV
    isplitl [Hk]; · iexact Hk
    iexact Hv
  iintro ⟨HK, HV, Hk, Hv⟩
  iapply (wpb_bind c)
  iapply (wp_part5 (In c).k (In c).v c) $$ [HK HV Hk Hv]
  · isplitl [HK]; · iexact HK
    isplitl [HV]; · iexact HV
    isplitl [Hk]; · iexact Hk
    iexact Hv
  iintro ⟨HK, HV, Hk, Hv⟩
  dsimp only
  iapply (wpb_bind c)
  iapply (wp_part6 (In c).k (In c).v c (In c).x (In c).q (In c).w _ _ _ _ _ _) $$ [Hx Hq Hw Hk Hv]
  · isplitl [Hx]; · iexact Hx
    isplitl [Hq]; · iexact Hq
    isplitl [Hw]; · iexact Hw
    isplitl [Hk]; · iexact Hk
    iexact Hv
  iintro ⟨Hx, Hq, Hw, Hk, Hv⟩
  dsimp only
  iapply (wpb_bind c)
  iapply (wp_part7 (ct In) κ c (In c).k (In c).v _ _ _ _ _ _ _ rfl) $$ [H00 HaB HcB Hx0 HO Hk Hv]
  · isplitr; · iexact HR
    isplitr; · iexact Hl
    isplitl [H00]; · iexact H00
    isplitl [HaB]; · iexact HaB
    isplitl [HcB]; · iexact HcB
    isplitl [Hx0]; · iexact Hx0
    isplitl [HO]; · iexact HO
    isplitl [Hk]; · iexact Hk
    iexact Hv
  iintro ⟨Hf0, HL1, HL2, HL3, HL4, HL5, HL6, HL7, HaB, HO, Hk, Hv⟩
  dsimp only
  iapply (wpb_bind c)
  iapply (wp_part8 (ct In) κ c (In c).k (In c).v _ _ _ _ _ _ rfl) $$ [H01 Hx1 HL1 HO Hk Hv]
  · isplitr; · iexact HR
    isplitr; · iexact Hl
    isplitl [H01]; · iexact H01
    isplitl [Hx1]; · iexact Hx1
    isplitl [HL1]; · iexact HL1
    isplitl [HO]; · iexact HO
    isplitl [Hk]; · iexact Hk
    iexact Hv
  iintro ⟨Hf1, HO, Hk, Hv⟩
  iapply (wpb_bind c)
  iapply (wp_part9 (ct In) κ c (In c).k (In c).v _ _ _ _ _ rfl) $$ [H02 Hx2 HL2 HO Hk Hv]
  · isplitr; · iexact HR
    isplitr; · iexact Hl
    isplitl [H02]; · iexact H02
    isplitl [Hx2]; · iexact Hx2
    isplitl [HL2]; · iexact HL2
    isplitl [HO]; · iexact HO
    isplitl [Hk]; · iexact Hk
    iexact Hv
  iintro ⟨Hf2, HO, Hk, Hv⟩
  iapply (wpb_bind c)
  iapply (wp_part10 (ct In) κ c _ _ _ rfl) $$ [H03 Hx3 HL3 Hf0 HO]
  · isplitr; · iexact HR
    isplitr; · iexact Hl
    isplitl [H03]; · iexact H03
    isplitl [Hx3]; · iexact Hx3
    isplitl [HL3]; · iexact HL3
    isplitl [Hf0]; · iexact Hf0
    iexact HO
  iintro ⟨Hf3, Hf0, H00, HO⟩
  iapply (wpb_bind c)
  iapply (wp_part11 (ct In) κ c _ rfl) $$ [Hf0 H00 H20 Hx4 HL4 HO]
  · isplitr; · iexact HR
    isplitr; · iexact Hl
    isplitl [Hf0]; · iexact Hf0
    isplitl [H00]; · iexact H00
    isplitl [H20]; · iexact H20
    isplitl [Hx4]; · iexact Hx4
    isplitl [HL4]; · iexact HL4
    iexact HO
  iintro ⟨Hf0, H00, H10, Hf4, HO⟩
  iapply (wpb_bind c)
  iapply (wp_part12 (ct In) κ c _ _ rfl) $$ [Hf1 H21 HO]
  · isplitr; · iexact HR
    isplitr; · iexact Hl
    isplitl [Hf1]; · iexact Hf1
    isplitl [H21]; · iexact H21
    iexact HO
  iintro ⟨Hf1, H01, H11, H21, HO⟩
  dsimp only
  iapply (wpb_bind c)
  iapply (wp_part13 (ct In) κ c _ _ _) $$ [H21 Hx5 HL5 Hf2 HO]
  · isplitr; · iexact HR
    isplitr; · iexact Hl
    isplitl [H21]; · iexact H21
    isplitl [Hx5]; · iexact Hx5
    isplitl [HL5]; · iexact HL5
    isplitl [Hf2]; · iexact Hf2
    iexact HO
  iintro ⟨Hf5, Hf2, H02, H12, HO⟩
  iapply (wpb_bind c)
  iapply (wp_part14 (ct In) κ c _ rfl) $$ [H12 H22 Hx6 HL6 Hf3 HO]
  · isplitr; · iexact HR
    isplitr; · iexact Hl
    isplitl [H12]; · iexact H12
    isplitl [H22]; · iexact H22
    isplitl [Hx6]; · iexact Hx6
    isplitl [HL6]; · iexact HL6
    isplitl [Hf3]; · iexact Hf3
    iexact HO
  iintro ⟨H12, Hf6, Hf3, H03, HO⟩
  iapply (wpb_bind c)
  iapply (wp_part15 (ct In) κ c _ _ rfl) $$ [Hf3 H03 H23 Hx7 HL7 HO]
  · isplitr; · iexact HR
    isplitr; · iexact Hl
    isplitl [Hf3]; · iexact Hf3
    isplitl [H03]; · iexact H03
    isplitl [H23]; · iexact H23
    isplitl [Hx7]; · iexact Hx7
    isplitl [HL7]; · iexact HL7
    iexact HO
  iintro ⟨Hf3, H03, H13, Hf7, HO⟩
  iapply (wpb_bind c)
  iapply (wp_part16 (ct In) κ c _ _) $$ [Hf4 Ho HO]
  · isplitr; · iexact HR
    isplitr; · iexact Hl
    isplitl [Hf4]; · iexact Hf4
    isplitl [Ho]; · iexact Ho
    iexact HO
  iintro ⟨Hf4, H20, H30, Ho, HO⟩
  iapply (wpb_bind c)
  iapply (wp_part17 (ct In) κ c _ _) $$ [Hf5 Ho HO]
  · isplitr; · iexact HR
    isplitr; · iexact Hl
    isplitl [Hf5]; · iexact Hf5
    isplitl [Ho]; · iexact Ho
    iexact HO
  iintro ⟨Hf5, H21, H31, Ho, HO⟩
  iapply (wpb_bind c)
  iapply (wp_part18 (ct In) κ c _ _) $$ [Hf6 Ho HO]
  · isplitr; · iexact HR
    isplitr; · iexact Hl
    isplitl [Hf6]; · iexact Hf6
    isplitl [Ho]; · iexact Ho
    iexact HO
  iintro ⟨Hf6, H22, H32, Ho, HO⟩
  simp only [Prog.lift, Prog.bind_op, Prog.bind_ret, Prog.pure_eq_ret]
  iapply (wp_wait_send (ct In) κ c 7 [] (by decide) 2 3 3 3 rfl rfl _ _ _ rfl) $$ [Hf7 HO]
  · isplitr; · iexact HR
    isplitr; · iexact Hl
    isplitl [Hf7]; · iexact Hf7
    iexact HO
  iintro ⟨H23, Hf7, HO⟩
  iapply (wp_wait_recv (ct In) κ c 7 [] (by decide) 3 3 2 3 rfl rfl _ _ _ rfl) $$ [Hf7 HO]
  · isplitr; · iexact HR
    isplitr; · iexact Hl
    isplitl [Hf7]; · iexact Hf7
    iexact HO
  iintro ⟨H33, Hf7, HO⟩
  iapply (wp_slot_load 2 3 _ c _) $$ H23; iintro H23
  iapply (wpb_ret c)
  iapply (wp_slot_load 3 3 _ c _) $$ H33; iintro H33
  iapply (wp_peek c oM _ _) $$ Ho; iintro Ho
  iapply (wp_oPut c _ _ _ _) $$ Ho; iintro Ho
  iapply (wpb_ret c)
  iapply Hc
  unfold bodyPost inBufs eight
  isplitl [HaB]; · iexact HaB
  isplitl [Hf0 Hf1 Hf2 Hf3 Hf4 Hf5 Hf6 Hf7]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact Hf7
  isplitl [HO]; · iexact HO
  isplitr [Hx Hq HK HV Hw Ho]
  · isplitr [Hk Hv]
    · iapply (slots_join c)
      unfold rowAny
      isplitl [H00 H01 H02 H03]
      · isplitl [H00]; · iapply (any_of c 0 0); iexact H00
        isplitl [H01]; · iapply (any_of c 0 1); iexact H01
        isplitl [H02]; · iapply (any_of c 0 2); iexact H02
        iapply (any_of c 0 3); iexact H03
      isplitl [H10 H11 H12 H13]
      · isplitl [H10]; · iapply (any_of c 1 0); iexact H10
        isplitl [H11]; · iapply (any_of c 1 1); iexact H11
        isplitl [H12]; · iapply (any_of c 1 2); iexact H12
        iapply (any_of c 1 3); iexact H13
      isplitl [H20 H21 H22 H23]
      · isplitl [H20]; · iapply (any_of c 2 0); iexact H20
        isplitl [H21]; · iapply (any_of c 2 1); iexact H21
        isplitl [H22]; · iapply (any_of c 2 2); iexact H22
        iapply (any_of c 2 3); iexact H23
      isplitl [H30]; · iapply (any_of c 3 0); iexact H30
      isplitl [H31]; · iapply (any_of c 3 1); iexact H31
      isplitl [H32]; · iapply (any_of c 3 2); iexact H32
      iapply (any_of c 3 3); iexact H33
    isplitl [Hk]; · iexists _; iexact Hk
    iexists _; iexact Hv
  isplitr [Ho]
  · isplitl [Hx]; · iexact Hx
    isplitl [Hq]; · iexact Hq
    isplitl [HK]; · iexact HK
    isplitl [HV]; · iexact HV
    iexact Hw
  iexact Ho

end Cert.KernelIdeal.Exchange

end
-- ==== Proof.Result.lean ====
module

public import proofs.«01_k».proof.Proof.Whole

/-! The result buffer after the four chunks were stored: every element, and that nothing of the earlier contents is left. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An element of the result read as a position of its chunk. -/
def inChunk (i : S2x128x512.Idx) : S1x64x512.Idx
  | ⟨0, _⟩ => (⟨0, by decide⟩ : Fin 1)
  | ⟨1, _⟩ => (⟨(i 1).val % 64, Nat.mod_lt _ (by decide)⟩ : Fin 64)
  | ⟨2, _⟩ => i 2

/-- A stored chunk, element by element. -/
theorem oPut_at (b k : ℕ) (h : ∀ a, (![b, 64 * k, 0] : Fin 3 → ℕ) a + S1x64x512.size a ≤ S2x128x512.size a)
    (f : Vec F S2x128x512 .bf16) (w : Vec F S1x64x512 .bf16) (i : S2x128x512.Idx) :
    oPut f ![b, 64 * k, 0] h w i = if (i 0).val = b ∧ (i 1).val / 64 = k then w (inChunk i) else f i := by
  have hmem : i ∈ (Rect.unit (s := S2x128x512) ![b, 64 * k, 0] S1x64x512.size h).set ↔ (i 0).val = b ∧ (i 1).val / 64 = k := by
    rw [Rect.mem_set_unit]
    constructor
    · intro h'
      have h0 := h' ⟨0, by decide⟩
      have h1 := h' ⟨1, by decide⟩
      change b ≤ (i 0).val ∧ (i 0).val < b + 1 at h0
      change 64 * k ≤ (i 1).val ∧ (i 1).val < 64 * k + 64 at h1
      omega
    · rintro ⟨h0, h1⟩ a
      match a with
      | ⟨0, _⟩ => change b ≤ (i 0).val ∧ (i 0).val < b + 1; omega
      | ⟨1, _⟩ => change 64 * k ≤ (i 1).val ∧ (i 1).val < 64 * k + 64; omega
      | ⟨2, _⟩ => have := (i 2).isLt; change 0 ≤ (i 2).val ∧ (i 2).val < 0 + 512; change (i 2).val < 512 at this; omega
  unfold oPut
  split
  · next hc =>
    obtain ⟨x, hx⟩ := LoadRect.exists_idx_of_mem _ (hmem.mpr hc)
    have hxi : inChunk i = x := by
      rw [← hx]
      funext a
      apply Fin.ext
      match a with
      | ⟨0, h⟩ => exact (Nat.lt_one_iff.mp (x ⟨0, h⟩).isLt).symm
      | ⟨1, h⟩ =>
        have := (x ⟨1, h⟩).isLt
        change (x ⟨1, h⟩).val < 64 at this
        show (64 * k + 1 * (x ⟨1, h⟩).val) % 64 = (x ⟨1, h⟩).val
        omega
      | ⟨2, h⟩ => show 0 + 1 * (x ⟨2, h⟩).val = _; omega
    rw [hxi]
    rw [← hx]
    exact ((oM.access (Rect.unit (s := S2x128x512) ![b, 64 * k, 0] S1x64x512.size h)).write_emb_of_mem (Val := Elt F) f w (Finset.mem_univ x))
  · next hc =>
    refine (oM.access (Rect.unit (s := S2x128x512) ![b, 64 * k, 0] S1x64x512.size h)).write_of_not_mem (Val := Elt F) f w _ ?_
    intro hm
    refine hc (hmem.mp ?_)
    obtain ⟨x, -, hx⟩ := Finset.mem_map.mp hm
    rw [← Rect.map_emb_univ]
    exact Finset.mem_map.mpr ⟨x, Finset.mem_univ x, hx⟩

variable (In : Dev nD → Ins F)

/-- The chunk an element of the result belongs to. -/
def chunkOf (i : S2x128x512.Idx) : Fin 8 :=
  ⟨4 + 2 * (i 0).val + (i 1).val / 64, by
    have h0 : (i 0).val < 2 := (i 0).isLt
    have h1 : (i 1).val < 128 := (i 1).isLt
    omega⟩

/-- The result, element by element. -/
def outVal (c : Dev nD) : Vec F S2x128x512 .bf16 := fun i => chunk In c (chunkOf i) (inChunk i)

theorem outOver_eq (c : Dev nD) (f : Vec F S2x128x512 .bf16) : outOver In c f = outVal In c := by
  funext i
  have h0 : (i 0).val < 2 := (i 0).isLt
  have h1 : (i 1).val < 128 := (i 1).isLt
  unfold outOver outVal
  have e0 := oPut_at (F := F) 1 1 inb_S2x128x512_S1x64x512_1_64_0
  have e1 := oPut_at (F := F) 1 0 inb_S2x128x512_S1x64x512_1_0_0
  have e2 := oPut_at (F := F) 0 1 inb_S2x128x512_S1x64x512_0_64_0
  have e3 := oPut_at (F := F) 0 0 inb_S2x128x512_S1x64x512_0_0_0
  have hj : ∀ (j : Fin 8), 4 + 2 * (i 0).val + (i 1).val / 64 = j.val → chunkOf i = j := fun j h => Fin.ext h
  refine (e0 _ _ i).trans ?_
  split
  · next h => rw [hj 7 (by show _ = 7; omega)]
  refine (e1 _ _ i).trans ?_
  split
  · next h => rw [hj 6 (by show _ = 6; omega)]
  refine (e2 _ _ i).trans ?_
  split
  · next h => rw [hj 5 (by show _ = 5; omega)]
  refine (e3 _ _ i).trans ?_
  split
  · next h => rw [hj 4 (by show _ = 4; omega)]
  omega

end Cert.KernelIdeal.Exchange

end
-- ==== Proof.Region.lean ====
module

public import proofs.«01_k».proof.Proof.Result
public import proofs.«01_k».proof.Proof.Gen.KernelIdeal.Regions
public import Idealize.ShloMosaic.Lib.Pipeline.RegionTalk
public import Idealize.ShloMosaic.Lib.Pipeline.ValueKit

/-! The kernel call as a region of the host program: its inputs, its result, the body at its one point, and the record that the
launch consumes. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## Families over the eight transfers and the sixteen own semaphores -/

theorem eight_eq (Φ : Fin 8 → sProp 𝕄) : bigSep Finset.univ Φ = eight Φ := by
  rw [bigSep_univ_eq_bigSepL [(0 : Fin 8), 1, 2, 3, 4, 5, 6, 7] (by decide) (by decide) Φ]
  rfl

/-- The send and the receive semaphore of each transfer are the sixteen own semaphores. -/
theorem own_pairs (Ψ : DmaSem sig → sProp 𝕄) :
    bigSep Finset.univ (fun k : Fin 16 => Ψ (ownS k)) = bigSep Finset.univ fun j : Fin 8 => iprop(Ψ (sendS j) ∗ Ψ (recvS j)) := by
  rw [bigSep_univ_equiv (finProdFinEquiv : Fin 2 × Fin 8 ≃ Fin 16) (fun k : Fin 16 => Ψ (ownS k)), bigSep_univ_prod, BI.bigSep_fin_two, bigSep_sep']
  have h0 : ∀ j : Fin 8, ownS (finProdFinEquiv ((0 : Fin 2), j)) = sendS j := by decide
  have h1 : ∀ j : Fin 8, ownS (finProdFinEquiv ((1 : Fin 2), j)) = recvS j := by decide
  simp only [h0, h1]
  rfl

/-- The counter of own semaphore `k`. -/
abbrev osem (k : Fin 16) : SemLoc sig := .dma (ownS k)

/-! ## The region's inputs and result -/

variable (m : (ℓ : Loc nD τ sig) → Buf (Elt F) ℓ)

/-- Device `c`'s inputs to the kernel call, as the host program leaves them. -/
def inp (c : Dev nD) : Ins F := ⟨V1 m c main_arg0, V1 m c main_v9, V1 m c main_v15, V1 m c main_v16, V1 m c main_v14⟩

/-- The unscoped buffers after the call: the result array at the result. -/
def V₂ (c : Dev nD) : Valuation τ sig (Elt F) := Function.update (V1 m c) (Proc.devRef .tc main_v17) (outVal (inp m) c)

theorem V₂_result (c : Dev nD) : V₂ m c (Proc.devRef .tc main_v17) = outVal (inp m) c := by
  unfold V₂; exact Function.update_self _ _ _
theorem V₂_of (c : Dev nD) (b : DevRef τ sig) (h : b ≠ Proc.devRef .tc main_v17) : V₂ m c b = V1 m c b := by
  unfold V₂; exact Function.update_of_ne h _ _

/-- The exchange's holdings at the start of the body. -/
def start (c : Dev nD) : sProp 𝕄 :=
  iprop(∃ κ, records (ct (inp m)) κ ∗ levAts L lv ∗ marks c
    ∗ dutyTok ER (barCell (p1 c)) 0 false ∗ dutyTok ER (barCell (p2 c)) 0 true
    ∗ atPos ER (barCell c) 0 ∅ 0 ∗ cred (tallyAt (barCell c) () 2) ∗ eight (tx c))

/-- The scratch buffers at some contents. -/
def scratch (c : Dev nD) : sProp 𝕄 :=
  iprop((∃ g, at_ (F := F) c cc0_scratch0 g) ∗ (∃ g, at_ (F := F) c cc0_scratch3 g) ∗ (∃ g, at_ (F := F) c cc0_scratch4 g))

/-- Before the body, and after it. -/
def before (c : Dev nD) : sProp 𝕄 := iprop(start m c ∗ scratch c ∗ ∃ r, prngReg c r)
def afterwards (c : Dev nD) : sProp 𝕄 := iprop(semVal (barCell c) 0 ∗ Pipeline.ownSems0 osem c ∗ scratch c ∗ ∃ r, prngReg c r)

/-- The region's proof data: arrays at entry, windows after the body, the invariant and the dues. -/
def dats (c : Dev nD) : Dat τ (Elt F) Unit ℕ UU ℕ cfg0 c where
  A w := V1 m c (Proc.devRef .tc (Pipeline.arrRef spec0 w))
  after w _ := match w with
    | ⟨0, _⟩ => (inp m c).x
    | ⟨1, _⟩ => (inp m c).q
    | ⟨2, _⟩ => (inp m c).k
    | ⟨3, _⟩ => (inp m c).v
    | ⟨4, _⟩ => (inp m c).w
    | ⟨5, _⟩ => outVal (inp m) c
  Φ t := if t.val = 0 then before m c else afterwards c
  q _ := fullShare
  owed t := if t.val = 0 then O₀ c else 0

/-! ## The body at the region's one point -/

theorem bigSep_windows (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The own cells and the barrier cell close: every counter at zero. -/
theorem close_all (ct' : Dev nD → Fin 8 → Vec F S1x1x64x512 .bf16) (κ : GSem nD τ sig → ℕ) (c : Dev nD) :
    iprop(records ct' κ ∗ atPos ER (barCell c) (0 + 1) ∅ 0 ∗ eight (dn c))
      ⊢ (|={Set.univ}=> iprop(semVal (barCell c) 0 ∗ Pipeline.ownSems0 osem c) : sProp 𝕄) := by
  have hown : iprop(records ct' κ ∗ eight (dn c)) ⊢ (|={Set.univ}=> Pipeline.ownSems0 osem c : sProp 𝕄) := by
    have e : eight (dn (F := F) c) = bigSep Finset.univ fun k : Fin 16 => atPos ER ((c : Thread nD τ), .dma (ownS k)) (0 + 1) ∅ 0 := by
      rw [← eight_eq, own_pairs (F := F) (fun s => atPos ER ((c : Thread nD τ), .dma s) (0 + 1) ∅ 0)]
      rfl
    rw [e]
    refine (bigSep_with_persistent (Ψ := fun k : Fin 16 => iprop(|={Set.univ}=> semVal ((c : Thread nD τ), .dma (ownS k)) 0)) fun k _ => close_own ct' κ c k).trans ?_
    exact bigSep_fupd _ _
  iintro ⟨#HR, Hb, He⟩
  imod (close_bar ct' κ c) $$ [Hb] with Hb
  · isplitr; · iexact HR
    iexact Hb
  imod hown $$ [He] with He
  · isplitr; · iexact HR
    iexact He
  imodintro
  isplitl [Hb] <;> iassumption

def obPre (c : Dev nD) : sProp 𝕄 :=
  iprop(before m c ∗ (dats m c).owesAt () t0_0.castSucc
    ∗ (∃ d, stg c cc0_stg0_0 ((dats m c).before (0 : Fin 6) t0_0 d))
    ∗ (∃ d, stg c cc0_stg1_0 ((dats m c).before (1 : Fin 6) t0_0 d))
    ∗ (∃ d, stg c cc0_stg2_0 ((dats m c).before (2 : Fin 6) t0_0 d))
    ∗ (∃ d, stg c cc0_stg3_0 ((dats m c).before (3 : Fin 6) t0_0 d))
    ∗ (∃ d, stg c cc0_stg4_0 ((dats m c).before (4 : Fin 6) t0_0 d))
    ∗ (∃ d, stg c cc0_stg5_0 ((dats m c).before (5 : Fin 6) t0_0 d)))

def obPost (c : Dev nD) : sProp 𝕄 :=
  iprop(afterwards (F := F) c ∗ (dats m c).owesAt () t0_0.succ
    ∗ stg c cc0_stg0_0 (inp m c).x ∗ stg c cc0_stg1_0 (inp m c).q ∗ stg c cc0_stg2_0 (inp m c).k
    ∗ stg c cc0_stg3_0 (inp m c).v ∗ stg c cc0_stg4_0 (inp m c).w ∗ stg c cc0_stg5_0 (outVal (inp m) c))

theorem before_0 (c : Dev nD) (d) : (dats m c).before (0 : Fin 6) t0_0 d = (inp m c).x := by
  unfold Dat.before; rw [if_pos (by rfl)]
  funext y
  refine congrArg (inp m c).x (funext fun a => Fin.ext ?_)
  show 0 * win0_0.size a + 1 * (y a).val = (y a).val
  rw [Nat.zero_mul, Nat.zero_add, Nat.one_mul]
theorem before_1 (c : Dev nD) (d) : (dats m c).before (1 : Fin 6) t0_0 d = (inp m c).q := by
  unfold Dat.before; rw [if_pos (by rfl)]
  funext y
  refine congrArg (inp m c).q (funext fun a => Fin.ext ?_)
  show 0 * win0_1.size a + 1 * (y a).val = (y a).val
  rw [Nat.zero_mul, Nat.zero_add, Nat.one_mul]
theorem before_2 (c : Dev nD) (d) : (dats m c).before (2 : Fin 6) t0_0 d = (inp m c).k := by
  unfold Dat.before; rw [if_pos (by rfl)]
  funext y
  refine congrArg (inp m c).k (funext fun a => Fin.ext ?_)
  show 0 * win0_2.size a + 1 * (y a).val = (y a).val
  rw [Nat.zero_mul, Nat.zero_add, Nat.one_mul]
theorem before_3 (c : Dev nD) (d) : (dats m c).before (3 : Fin 6) t0_0 d = (inp m c).v := by
  unfold Dat.before; rw [if_pos (by rfl)]
  funext y
  refine congrArg (inp m c).v (funext fun a => Fin.ext ?_)
  show 0 * win0_3.size a + 1 * (y a).val = (y a).val
  rw [Nat.zero_mul, Nat.zero_add, Nat.one_mul]
theorem before_4 (c : Dev nD) (d) : (dats m c).before (4 : Fin 6) t0_0 d = (inp m c).w := by
  unfold Dat.before; rw [if_pos (by rfl)]
  funext y
  refine congrArg (inp m c).w (funext fun a => Fin.ext ?_)
  show 0 * win0_4.size a + 1 * (y a).val = (y a).val
  rw [Nat.zero_mul, Nat.zero_add, Nat.one_mul]

set_option maxHeartbeats 800000 in
theorem ob_body (c : Dev nD) :
    obPre m c ⊢ wpb c (cc0_body (F := F) xM (Memref.isWhole_whole _) qM (Memref.isWhole_whole _) kM (Memref.isWhole_whole _) vM (Memref.isWhole_whole _) wM (Memref.isWhole_whole _) oM (Memref.isWhole_whole _) cM (Memref.isWhole_whole _) cc0_scratch1 cc0_scratch2 kbM (Memref.isWhole_whole _) vbM (Memref.isWhole_whole _)) (fun _ => obPost m c) := by
  refine .trans ?_ (wp_fupd _ _ _ _ _)
  unfold obPre before start
  simp only [before_0, before_1, before_2, before_3, before_4]
  iintro ⟨⟨⟨%κ, #HR, Hs⟩, Hscr, Hp⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  rw [show (dats m c).owed t0_0.castSucc = O₀ c from rfl]
  iapply (wp_body (inp m) κ c g5) $$ [Hs Hscr HO H0 H1 H2 H3 H4 H5]
  · unfold bodyPre inBufs
    icases Hs with ⟨#Hl, #Hm, Ht1, Ht2, Ha, Hc, Ht⟩
    isplitr; · iexact HR
    isplitr; · iexact Hl
    isplitr; · iexact Hm
    isplitl [HO]; · iexists W; iexact HO
    isplitl [Ht1]; · iexact Ht1
    isplitl [Ht2]; · iexact Ht2
    isplitl [Ha]; · iexact Ha
    isplitl [Hc]; · iexact Hc
    isplitl [Ht]; · iexact Ht
    isplitl [Hscr]; · unfold scratch; iexact Hscr
    isplitr [H5]
    · isplitl [H0]; · iexact H0
      isplitl [H1]; · iexact H1
      isplitl [H2]; · iexact H2
      isplitl [H3]; · iexact H3
      iexact H4
    iexact H5
  iintro Hpost
  unfold bodyPost inBufs
  icases Hpost with ⟨Ha, Hd, HO, Hscr, ⟨H0, H1, H2, H3, H4⟩, H5⟩
  imod (close_all (ct (inp m)) κ c) $$ [Ha Hd] with ⟨Hb, Hos⟩
  · isplitr; · iexact HR
    isplitl [Ha] <;> iassumption
  imodintro
  rw [outOver_eq]
  unfold obPost afterwards Dat.owesAt Pipeline.owesWithin
  rw [show (dats m c).owed t0_0.succ = 0 from rfl]
  isplitl [Hb Hos Hscr Hp]
  · isplitl [Hb]; · iexact Hb
    isplitl [Hos]; · iexact Hos
    isplitl [Hscr]; · unfold scratch; iexact Hscr
    iexact Hp
  isplitl [HO]
  · unfold owing
    icases HO with ⟨%W', HO⟩
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- The library's body obligation. -/
theorem body_obligation (c : Dev nD) : BodyObligation (dats (F := F) m c) (defs₀ (F := F)) 𝒱₀ () Set.univ := fun t => by
  rw [fin_N0 t]
  rw [bigSep_windows, bigSep_windows]
  simp only [owns_whole]
  exact ob_body m c

/-! ## What the region leaves in the arrays -/

theorem arr_in (c : Dev nD) (w : Fin 6) (h : w.val < 5) : (dats m c).arrAt w cfg0.N = V1 m c (Proc.devRef .tc (Pipeline.arrRef spec0 w)) :=
  (dats (F := F) m c).arrAt_in w (by revert h; revert w; decide) _

theorem arr_out (c : Dev nD) : (dats m c).arrAt (5 : Fin 6) cfg0.N = outVal (inp m) c := by
  exact (dats m c).arrAt_eq_of_after_last (5 : Fin 6) t0_0 (by decide +kernel) (outVal (inp m) c) (fun j => rfl) (Memref.isWhole_whole _)

end Cert.KernelIdeal.Exchange

end
-- ==== Proof.Segment.lean ====
module

public import proofs.«01_k».proof.Proof.Region

/-! The kernel call's record: what the launch leaves for it, how its own semaphores open, and what it is entered from and left at. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ)

/-- Two families over one set, taken together and apart. -/
theorem zip_sep {ι : Type} {s : Finset ι} {Φ Ψ : ι → sProp 𝕄} : iprop(bigSep s Φ ∗ bigSep s Ψ) ⊢ bigSep s fun i => iprop(Φ i ∗ Ψ i) :=
  Entails.of_eq (bigSep_sep' s Φ Ψ).symm
theorem unzip_sep {ι : Type} {s : Finset ι} {Φ Ψ : ι → sProp 𝕄} : (bigSep s fun i => iprop(Φ i ∗ Ψ i)) ⊢ iprop(bigSep s Φ ∗ bigSep s Ψ) :=
  Entails.of_eq (bigSep_sep' s Φ Ψ)

/-- What the launch deals to device `c` of the protocol's state. -/
def dealt (c : Dev nD) : sProp 𝕄 :=
  iprop(atPos ER (barCell c) 0 ∅ 0
    ∗ (bigSep Finset.univ fun k : Fin 16 => openTok ER ((c : Thread nD τ), .dma (ownS k)))
    ∗ (dutyTok ER (barCell (p1 c)) 0 false ∗ dutyTok ER (barCell (p2 c)) 0 true)
    ∗ bigSep Finset.univ fun j : Fin 8 => iprop(dutyTok ER (sendCell c j) 0 false ∗ dutyTok ER (recvCell (peer j c) j) 0 false))

/-- The credit of the landings and units device `c` waits for. -/
def credits (c : Dev nD) : sProp 𝕄 :=
  iprop(cred (tallyAt (barCell c) () 2) ∗ bigSep Finset.univ fun j : Fin 8 => cred (tallyAt (recvCell c j) () N))

/-- What the call is entered with, beside the buffers. -/
def kept (c : Dev nD) : sProp 𝕄 := iprop(∃ κ, records (ct (inp m)) κ ∗ dealt c ∗ credits c)

/-- The own cells open, every one at round 0. -/
theorem open_own (κ : GSem nD τ sig → ℕ) (c : Dev nD) :
    iprop(records (ct (inp m)) κ ∗ (bigSep Finset.univ fun k : Fin 16 => openTok ER ((c : Thread nD τ), .dma (ownS k))) ∗ Pipeline.ownSems0 osem c)
      ⊢ (|={Set.univ}=> bigSep Finset.univ fun j : Fin 8 =>
          iprop((atPos ER (sendCell c j) 0 ∅ 0 ∗ reached ER (sendCell c j) 0) ∗ (atPos ER (recvCell c j) 0 ∅ 0 ∗ reached ER (recvCell c j) 0)) : sProp 𝕄) := by
  have e := own_pairs (F := F) (fun s => iprop(atPos ER ((c : Thread nD τ), .dma s) 0 ∅ 0 ∗ reached ER ((c : Thread nD τ), .dma s) 0))
  rw [show (bigSep Finset.univ fun j : Fin 8 =>
      (iprop((atPos ER (sendCell c j) 0 ∅ 0 ∗ reached ER (sendCell c j) 0) ∗ (atPos ER (recvCell c j) 0 ∅ 0 ∗ reached ER (recvCell c j) 0)) : sProp 𝕄)) = _ from e.symm]
  have h1 (k : Fin 16) : iprop(records (ct (inp m)) κ ∗ (openTok ER ((c : Thread nD τ), .dma (ownS k)) ∗ semVal ((c : Thread nD τ), .dma (ownS k)) 0))
      ⊢ (|={Set.univ}=> iprop(atPos ER ((c : Thread nD τ), .dma (ownS k)) 0 ∅ 0 ∗ reached ER ((c : Thread nD τ), .dma (ownS k)) 0) : sProp 𝕄) := by
    iintro ⟨#HR, Ht, Hv⟩
    iapply (Rounds.cell_open ER (Rd (ct (inp m))) (g := ((c : Thread nD τ), .dma (ownS k))) (Set.mem_univ (κ ((c : Thread nD τ), .dma (ownS k)))))
    isplitr; · iapply (records_own (ct (inp m)) κ c); iexact HR
    isplitl [Ht] <;> iassumption
  refine .trans ?_ (bigSep_fupd _ _)
  refine .trans ?_ (bigSep_with_persistent (R := records (ct (inp m)) κ) fun k _ => h1 k)
  unfold Pipeline.ownSems0
  iintro ⟨#HR, Ht, Hv⟩
  isplitr; · iexact HR
  iapply zip_sep
  isplitl [Ht]; · iexact Ht
  iexact Hv

/-- The marks of the receive cells, read off without spending anything. -/
theorem marks_of (c : Dev nD) :
    (bigSep Finset.univ fun j : Fin 8 =>
        iprop((atPos ER (sendCell c j) 0 ∅ 0 ∗ reached ER (sendCell c j) 0) ∗ (atPos ER (recvCell c j) 0 ∅ 0 ∗ reached ER (recvCell c j) 0)))
      ⊢ (iprop(marks c ∗ bigSep Finset.univ fun j : Fin 8 =>
          iprop(atPos ER (sendCell c j) 0 ∅ 0 ∗ atPos ER (recvCell c j) 0 ∅ 0 ∗ reached ER (sendCell c j) 0)) : sProp 𝕄) := by
  have h (j : Fin 8) : (iprop((atPos ER (sendCell c j) 0 ∅ 0 ∗ reached ER (sendCell c j) 0) ∗ (atPos ER (recvCell c j) 0 ∅ 0 ∗ reached ER (recvCell c j) 0)) : sProp 𝕄)
      ⊢ iprop(reached ER (recvCell c j) 0 ∗ (atPos ER (sendCell c j) 0 ∅ 0 ∗ atPos ER (recvCell c j) 0 ∅ 0 ∗ reached ER (sendCell c j) 0)) := by
    iintro ⟨⟨Ha, #Hr⟩, Hb, #Hq⟩
    isplitr; · iexact Hq
    isplitl [Ha]; · iexact Ha
    isplitl [Hb]; · iexact Hb
    iexact Hr
  unfold marks
  exact .trans (bigSep_mono fun j _ => h j) unzip_sep

/-- The eight transfers' holdings, put together. -/
theorem tx_of (c : Dev nD) :
    iprop((bigSep Finset.univ fun j : Fin 8 => iprop(atPos ER (sendCell c j) 0 ∅ 0 ∗ atPos ER (recvCell c j) 0 ∅ 0 ∗ reached ER (sendCell c j) 0))
        ∗ (bigSep Finset.univ fun j : Fin 8 => iprop(dutyTok ER (sendCell c j) 0 false ∗ dutyTok ER (recvCell (peer j c) j) 0 false))
        ∗ bigSep Finset.univ fun j : Fin 8 => cred (tallyAt (recvCell c j) () N))
      ⊢ (eight (tx c) : sProp 𝕄) := by
  have h (j : Fin 8) : (iprop((atPos ER (sendCell c j) 0 ∅ 0 ∗ atPos ER (recvCell c j) 0 ∅ 0 ∗ reached ER (sendCell c j) 0)
        ∗ ((dutyTok ER (sendCell c j) 0 false ∗ dutyTok ER (recvCell (peer j c) j) 0 false) ∗ cred (tallyAt (recvCell c j) () N))) : sProp 𝕄) ⊢ tx c j := by
    unfold tx
    iintro ⟨⟨H1, H2, H3⟩, ⟨H4, H5⟩, H6⟩
    isplitl [H1]; · iexact H1
    isplitl [H2]; · iexact H2
    isplitl [H3]; · iexact H3
    isplitl [H4]; · iexact H4
    isplitl [H5] <;> iassumption
  rw [← eight_eq]
  refine .trans ?_ (bigSep_mono fun j _ => h j)
  iintro ⟨Ha, Ht, Hc⟩
  iapply zip_sep
  isplitl [Ha]; · iexact Ha
  iapply zip_sep
  isplitl [Ht] <;> iassumption

theorem hopen (c : Dev nD) : iprop(kept m c ∗ Pipeline.ownSems0 osem c ∗ levAts L lv) ⊢ (|={Set.univ}=> start m c : sProp 𝕄) := by
  unfold kept dealt credits start
  iintro ⟨⟨%κ, #HR, ⟨Hb, Ho, ⟨Ht1, Ht2⟩, Ht⟩, Hcb, Hc⟩, Hos, #Hl⟩
  imod (open_own m κ c) $$ [Ho Hos] with H
  · isplitr; · iexact HR
    isplitl [Ho] <;> iassumption
  ihave H := (marks_of (F := F) c) $$ H
  icases H with ⟨#Hm, Ha⟩
  imodintro
  iexists κ
  isplitr; · iexact HR
  isplitr; · iexact Hl
  isplitr; · iexact Hm
  isplitl [Ht1]; · iexact Ht1
  isplitl [Ht2]; · iexact Ht2
  isplitl [Hb]; · iexact Hb
  isplitl [Hcb]; · iexact Hcb
  iapply (tx_of (F := F) c)
  isplitl [Ha]; · iexact Ha
  isplitl [Ht] <;> iassumption

/-- The data of the program's one region. -/
def pdats : (p : Fin 1) → (c : Dev nD) → Dat τ (Elt F) Unit ℕ UU ℕ (Pipeline.pin (pcfgs (F := F)) adm p) c
  | 0 => dats m

theorem hin (c : Dev nD) : iprop(Pipeline.scopedRest (Pipeline.pin (pcfgs (F := F)) adm 0).spec c ∗ (∃ r, prngReg c r) ∗ StableHlo.held (c.tc : Thread nD τ) ∅ (V1 m c) ∗ start m c)
    ⊢ (pdats m 0 c).Φ 0 := by
  rw [show (pdats m 0 c).Φ 0 = iprop(start m c ∗ scratch c ∗ ∃ r, prngReg c r) from rfl]
  unfold scratch
  iintro ⟨Hs, Hp, -, Hst⟩
  isplitl [Hst]; · iexact Hst
  isplitl [Hs]
  · iapply (Entails.of_eq (scopedRest0_eq (Val := Elt F) (Ix := Unit) (Name := ℕ) (U := UU) (Lvl := ℕ) c)) $$ Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ semVal (barCell c) 0) := by
  rw [show (pdats m 0 c).Φ (Fin.last _) = iprop(semVal (barCell c) 0 ∗ Pipeline.ownSems0 osem c ∗ scratch c ∗ ∃ r, prngReg c r) from rfl]
  unfold scratch
  iintro ⟨Hb, Hos, Hs, Hp⟩
  isplitl [Hs]
  · iapply (Entails.of_eq (scopedRest0_eq (Val := Elt F) (Ix := Unit) (Name := ℕ) (U := UU) (Lvl := ℕ) c).symm) $$ Hs
  isplitl [Hp]; · iexact Hp
  isplitr
  · unfold StableHlo.held; rw [BI.bigSep_empty]; iempintro
  isplitl [Hos] <;> iassumption

theorem O₀_pos {c : Dev nD} {g : GSem nD τ sig} {u : Unit} (h : 0 < O₀ c g u) :
    (∃ j, g = recvCell (peer j c) j) ∨ ∃ d, g = barCell d := by
  unfold O₀ at h
  rw [Pi.add_apply, Finsupp.add_apply, Pi.add_apply, Finsupp.add_apply] at h
  by_cases h1 : g = barCell (p1 c)
  · exact .inr ⟨_, h1⟩
  by_cases h2 : g = barCell (p2 c)
  · exact .inr ⟨_, h2⟩
  rw [tallyAt_ne_cell h1, tallyAt_ne_cell h2, Finsupp.zero_apply, Nat.add_zero, Nat.add_zero] at h
  obtain ⟨j, -, e⟩ := owe_pos c _ g u h
  exact .inl ⟨j, e⟩

theorem landing_level (j : Fin 8) : 0 < slv (.dma (recvS j)) := by revert j; decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with ⟨j, rfl⟩ | ⟨d, rfl⟩
    · exact ⟨by rw [L_tc]; exact Finset.mem_singleton_self _, landing_level j⟩
    · exact ⟨by rw [L_tc]; exact Finset.mem_singleton_self _, Nat.one_pos⟩
  · exact absurd h (Nat.lt_irrefl 0)

theorem stage_level (w : Fin 6) (s : Fin (win0 w).nbuf) : slv (.dma ((win0 w).sem s)) ≤ 0 := by revert w; decide

theorem arr_end (c : Dev nD) (w : Fin 6) : (dats m c).arrAt w cfg0.N = V₂ m c (Proc.devRef .tc (Pipeline.arrRef spec0 w)) := by
  by_cases h : w.val < 5
  · rw [arr_in m c w h, V₂_of]
    revert h; revert w; decide
  · obtain rfl : w = 5 := Fin.ext (by have := w.isLt; omega)
    rw [arr_out]; exact (V₂_result m c).symm

/-- The arrays of the call's windows, and the other unscoped buffers. -/
abbrev arrs : Finset (DevRef τ sig) := Pipeline.arrRefs (τ := τ) spec0
abbrev others : Finset (DevRef τ sig) := Pipeline.ucRefs τ sig \ arrs
theorem arrs_sub : arrs ⊆ Pipeline.ucRefs τ sig := Pipeline.arrRefs_sub_ucRefs spec0 (by decide)
theorem result_mem : (Proc.devRef .tc main_v17 : DevRef τ sig) ∈ arrs := by
  unfold arrs Pipeline.arrRefs
  exact Finset.mem_map.mpr ⟨main_v17, Finset.mem_image.mpr ⟨(5 : Fin 6), Finset.mem_univ _, rfl⟩, rfl⟩

set_option backward.isDefEq.respectTransparency.types false in
/-- The call's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_obligation m c).loose)
    (fun _ => 0) O₀ (fun c => (show (dats m c).owed 0 = O₀ c from rfl).trans (zero_add _).symm) (fun c => rfl) (fun _ => rfl) (fun c w => ite_self _)
    (V1 m) (V₂ m) (fun c b hb => V₂_of m c b (fun e => by
      rw [Finset.sdiff_empty] at hb
      exact (Finset.mem_sdiff.mp hb).2 (e ▸ result_mem)))
    (kept m) (fun c => semVal (barCell c) 0) (start m) (fun c => semVal (barCell c) 0) (hopen m) (hin m) (hout m)
    (fun c => by iintro H; imodintro; iexact H)
    (fun _ => 0)
    ⟨fun c w s => by rw [L_tc]; exact Finset.mem_singleton_self _, fun c w s => stage_level w s, fun c t g i h => cutD m c t g i h⟩
    (fun _ => iprop(emp))
    (fun c w => rfl) (fun c w => arr_end m c w)

/-- What rides along the host operations before the call. -/
def rest (c : Dev nD) : sProp 𝕄 := iprop((∃ r, prngReg c r) ∗ kept m c ∗ ∃ W, owes (c : Thread nD τ) (O₀ c) W)

theorem reg_pre (c : Dev nD) : iprop(StableHlo.held (c : Thread nD τ) (Pipeline.ucRefs τ sig) (V1 m c) ∗ rest m c) ⊢ (reg m).pre c := by
  show _ ⊢ iprop(StableHlo.held (c.tc : Thread nD τ) arrs (V1 m c) ∗ (∃ r, prngReg c r)
    ∗ (StableHlo.held (c.tc : Thread nD τ) others (V1 m c) ∗ emp) ∗ kept m c ∗ ∃ Wd, owes (c : Thread nD τ) (0 + O₀ c) Wd)
  rw [zero_add, StableHlo.held_sub_split (c.tc : Thread nD τ) arrs_sub (V1 m c)]
  unfold rest
  iintro ⟨⟨Ha, Ho⟩, Hp, HK, HO⟩
  isplitl [Ha]; · iexact Ha
  isplitl [Hp]; · iexact Hp
  isplitl [Ho]
  · isplitl [Ho]; · iexact Ho
    iempintro
  isplitl [HK] <;> iassumption

theorem reg_post (c : Dev nD) : (reg m).post c
    ⊢ iprop((StableHlo.held (c : Thread nD τ) (Pipeline.ucRefs τ sig) (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ semVal (barCell c) 0 ∗ ∃ Wd, owes (c : Thread nD τ) (0 : CellTallies nD τ sig Unit) Wd) ⊢ _
  have e : (StableHlo.held (c.tc : Thread nD τ) (Pipeline.ucRefs τ sig) (V₂ m c) : sProp 𝕄) = _ := StableHlo.held_sub_split (c.tc : Thread nD τ) arrs_sub (V₂ m c)
  rw [e]
  iintro ⟨Ha, -, ⟨Ho, -⟩, Hb, HO⟩
  isplitr [HO]
  · isplitr [Hb]
    · isplitl [Ha] <;> iassumption
    iexact Hb
  iexact HO

end Cert.KernelIdeal.Exchange

end
-- ==== Proof.Launch.lean ====
module

public import proofs.«01_k».proof.Proof.Segment

/-! The launch: the cells' invariants and the duties' tokens dealt to the devices, the landings' credit, and the run of the whole program. -/

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf Seg)

theorem dma_ne_reg (a : DmaSem sig) (b : Sem sig) : (SemLoc.dma a : SemLoc sig) ≠ .reg b := nofun

/-! ## The duties' tokens -/

/-- The tokens of the barrier cells' two duties, and of the own cells' one. -/
def barTok : Dev nD × Bool ↪ GSem nD τ sig × ℕ × Bool :=
  ⟨fun cb => (barCell cb.1, 0, cb.2), fun a b h => Prod.ext
    (congrArg (fun t : GSem nD τ sig × ℕ × Bool => t.1.1.1) h) (congrArg (fun t : GSem nD τ sig × ℕ × Bool => t.2.2) h)⟩
def ownTok : Dev nD × Fin 16 ↪ GSem nD τ sig × ℕ × Bool :=
  ⟨fun ck => (ownEmb ck, 0, false), fun a b h => ownEmb.injective (congrArg Prod.fst h)⟩

theorem disjoint_toks : Disjoint (Finset.univ.map barTok) (Finset.univ.map ownTok) := by
  rw [Finset.disjoint_left]
  rintro g h₁ h₂
  obtain ⟨cb, -, rfl⟩ := Finset.mem_map.mp h₁
  obtain ⟨ck, -, h⟩ := Finset.mem_map.mp h₂
  exact dma_ne_reg (ownS ck.2) barS (congrArg (fun t : GSem nD τ sig × ℕ × Bool => t.1.2) h)

def toks : Finset (GSem nD τ sig × ℕ × Bool) := Finset.univ.map barTok ∪ Finset.univ.map ownTok

/-- A device and a transfer, to the partner and the same transfer. -/
def across : Dev nD × Fin 8 ≃ Dev nD × Fin 8 :=
  ⟨fun cj => (peer cj.2 cj.1, cj.2), fun cj => (peer cj.2 cj.1, cj.2), fun cj => Prod.ext (peer_peer cj.2 cj.1) rfl, fun cj => Prod.ext (peer_peer cj.2 cj.1) rfl⟩

/-- Each device gets the tokens of the duties it pays: its partners' barrier units, its own departures, the landings at its partners. -/
theorem toks_dealt :
    bigSep toks (fun x => (dutyTok ER x.1 x.2.1 x.2.2 : sProp 𝕄))
      = bigSep Finset.univ fun c : Dev nD => iprop((dutyTok ER (barCell (p1 c)) 0 false ∗ dutyTok ER (barCell (p2 c)) 0 true)
          ∗ bigSep Finset.univ fun j : Fin 8 => iprop(dutyTok ER (sendCell c j) 0 false ∗ dutyTok ER (recvCell (peer j c) j) 0 false)) := by
  have hb : bigSep (Finset.univ.map barTok) (fun x => (dutyTok ER x.1 x.2.1 x.2.2 : sProp 𝕄))
      = bigSep Finset.univ fun c : Dev nD => iprop(dutyTok ER (barCell (p1 c)) 0 false ∗ dutyTok ER (barCell (p2 c)) 0 true) := by
    have r1 : (bigSep Finset.univ fun c : Dev nD => (dutyTok ER (barCell (p1 c)) 0 false : sProp 𝕄)) = bigSep Finset.univ fun c : Dev nD => dutyTok ER (barCell c) 0 false :=
      (bigSep_univ_equiv ring1 (fun c : Dev nD => (dutyTok ER (barCell c) 0 false : sProp 𝕄))).symm
    have r2 : (bigSep Finset.univ fun c : Dev nD => (dutyTok ER (barCell (p2 c)) 0 true : sProp 𝕄)) = bigSep Finset.univ fun c : Dev nD => dutyTok ER (barCell c) 0 true :=
      (bigSep_univ_equiv ring2 (fun c : Dev nD => (dutyTok ER (barCell c) 0 true : sProp 𝕄))).symm
    rw [bigSep_map, bigSep_univ_prod, bigSep_sep' Finset.univ (fun c : Dev nD => (dutyTok ER (barCell (p1 c)) 0 false : sProp 𝕄)), r1, r2]
    refine .trans ?_ (bigSep_sep' Finset.univ (fun c : Dev nD => (dutyTok ER (barCell c) 0 false : sProp 𝕄)) fun c : Dev nD => dutyTok ER (barCell c) 0 true)
    refine bigSep_congr fun c _ => ?_
    rw [BI.bigSep_univ_eq_bigSepL [false, true] (by decide) (by decide), bigSepL_cons_cons, bigSepL_singleton]
    rfl
  have ho : bigSep (Finset.univ.map ownTok) (fun x => (dutyTok ER x.1 x.2.1 x.2.2 : sProp 𝕄))
      = bigSep Finset.univ fun c : Dev nD => bigSep Finset.univ fun j : Fin 8 =>
          iprop(dutyTok ER (sendCell c j) 0 false ∗ dutyTok ER (recvCell (peer j c) j) 0 false) := by
    have e1 : bigSep (Finset.univ.map ownTok) (fun x => (dutyTok ER x.1 x.2.1 x.2.2 : sProp 𝕄))
        = bigSep Finset.univ fun c : Dev nD => bigSep Finset.univ fun j : Fin 8 =>
            iprop(dutyTok ER (sendCell c j) 0 false ∗ dutyTok ER (recvCell c j) 0 false) := by
      rw [bigSep_map, bigSep_univ_prod]
      exact bigSep_congr fun c _ => own_pairs (F := F) (fun s => dutyTok ER ((c : Thread nD τ), .dma s) 0 false)
    rw [e1, ← bigSep_univ_prod (fun cj : Dev nD × Fin 8 => iprop(dutyTok ER (sendCell cj.1 cj.2) 0 false ∗ dutyTok ER (recvCell cj.1 cj.2) 0 false)),
      ← bigSep_univ_prod (fun cj : Dev nD × Fin 8 => iprop(dutyTok ER (sendCell cj.1 cj.2) 0 false ∗ dutyTok ER (recvCell (peer cj.2 cj.1) cj.2) 0 false)),
      bigSep_sep', bigSep_sep', bigSep_univ_equiv across (fun cj : Dev nD × Fin 8 => (dutyTok ER (recvCell cj.1 cj.2) 0 false : sProp 𝕄))]
    rfl
  unfold toks
  rw [bigSep_union disjoint_toks, hb, ho]
  exact (bigSep_sep' _ _ _).symm

/-! ## The launch credit -/

theorem recv_eq {c d : Dev nD} {j j' : Fin 8} (h : recvCell c j = recvCell d j') : c = d ∧ j = j' := by
  refine ⟨congrArg (fun g : GSem nD τ sig => g.1.1) h, ?_⟩
  have h2 := ownS_inj (SemLoc.dma.inj (congrArg Prod.snd h))
  have := congrArg Fin.val h2
  exact Fin.ext (by change 8 + j.val = 8 + j'.val at this; omega)

theorem owe_recv (d c : Dev nD) (j : Fin 8) : ∀ l : List (Fin 8), l.Nodup →
    owe d l (recvCell c j) () = if j ∈ l ∧ d = peer j c then N else 0
  | [], _ => by rw [if_neg (fun h => absurd h.1 List.not_mem_nil)]; rfl
  | j' :: l, hl => by
    have hn : j' ∉ l := (List.nodup_cons.mp hl).1
    unfold owe
    rw [Pi.add_apply, Finsupp.add_apply, owe_recv d c j l (List.nodup_cons.mp hl).2, tallyAt_apply]
    by_cases hj : j = j'
    · subst hj
      rw [if_neg (fun h => hn h.1), Nat.zero_add]
      by_cases hd : d = peer j c
      · subst hd; rw [if_pos ⟨by rw [peer_peer], rfl⟩, if_pos ⟨List.mem_cons_self, rfl⟩]
      · rw [if_neg (fun h => hd (by rw [(recv_eq h.1).1, peer_peer])), if_neg (fun h => hd h.2)]
    · rw [if_neg (fun h : recvCell c j = recvCell (peer j' d) j' ∧ () = () => hj (recv_eq h.1).2), Nat.add_zero]
      exact if_congr (and_congr_left' ⟨fun h => List.mem_cons_of_mem _ h, fun h => (List.mem_cons.mp h).resolve_left hj⟩) rfl rfl

theorem bar_ne_recv (c d : Dev nD) (j : Fin 8) : recvCell c j ≠ barCell d := fun h => dma_ne_reg _ _ (congrArg Prod.snd h)

theorem owed_recv (d c : Dev nD) (j : Fin 8) : O₀ d (recvCell c j) () = if d = peer j c then N else 0 := by
  unfold O₀
  rw [Pi.add_apply, Finsupp.add_apply, Pi.add_apply, Finsupp.add_apply, tallyAt_ne_cell (bar_ne_recv c _ j), tallyAt_ne_cell (bar_ne_recv c _ j),
    owe_recv d c j _ (by decide)]
  exact (Nat.add_zero _).trans ((Nat.add_zero _).trans (if_congr (and_iff_right (by revert j; decide)) rfl rfl))

theorem owed_bar (d c : Dev nD) : O₀ d (barCell c) () = (if d = p2 c then 1 else 0) + if d = p1 c then 1 else 0 := by
  have h0 : owe d [0, 1, 2, 3, 4, 5, 6, 7] (barCell c) () = 0 := Nat.eq_zero_of_not_pos fun h => by
    obtain ⟨j, -, e⟩ := owe_pos d _ _ _ h
    exact bar_ne_recv _ _ _ e.symm
  have hc {a b : Dev nD} (h : barCell a = barCell b) : a = b := congrArg (fun g : GSem nD τ sig => g.1.1) h
  unfold O₀
  rw [Pi.add_apply, Finsupp.add_apply, Pi.add_apply, Finsupp.add_apply, h0, Nat.zero_add, tallyAt_apply, tallyAt_apply]
  congr 1
  · exact if_congr ⟨fun h => by rw [hc h.1, p2_p2], fun h => ⟨by rw [h, p2_p2], rfl⟩⟩ rfl rfl
  · exact if_congr ⟨fun h => by rw [hc h.1, p1_p1], fun h => ⟨by rw [h, p1_p1], rfl⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (c : Dev nD) (j : Fin 8) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer j c) fun _ => N,
    if_pos (Finset.mem_univ _)]

def recvEmb : Fin 8 ↪ SemLoc sig := ⟨fun j => .dma (recvS j), fun a b h => by
  have h2 := congrArg Fin.val (ownS_inj (SemLoc.dma.inj h))
  exact Fin.ext (by change 8 + a.val = 8 + b.val at h2; omega)⟩

theorem creds (c : Dev nD) : (Pipeline.launchCred O₀ c : sProp 𝕄) ⊢ credits c := by
  unfold Pipeline.launchCred credits
  rw [bigSep_univ_at _ (SemLoc.reg barS), launch_bar]
  refine sep_mono_right ?_
  have hsub : Finset.univ.map recvEmb ⊆ Finset.univ.erase (SemLoc.reg barS : SemLoc sig) := fun s hs => by
    obtain ⟨j, -, rfl⟩ := Finset.mem_map.mp hs
    exact Finset.mem_erase.mpr ⟨fun h => dma_ne_reg (recvS j) barS h, Finset.mem_univ _⟩
  refine .trans (bigSep_subset hsub) ?_
  rw [bigSep_map]
  exact bigSep_mono fun j _ => by rw [← launch_recv]; exact BI.Entails.refl _

/-! ## The launch -/

variable (m : (ℓ : Loc nD τ sig) → Buf (Elt F) ℓ) (ρ : Dev nD → PrngReg)

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells toks)

/-- A resource held on device 0 alone until the launch step. -/
def parked (X : sProp 𝕄) (c : Dev nD) : sProp 𝕄 := if c = 0 then X else iprop(emp)
theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER (launchOf barCells ownCells toks)))

/-- A device's state before the host operations, and after the call. -/
def T₀ (c : Dev nD) : sProp 𝕄 := iprop(StableHlo.held (c : Thread nD τ) (Pipeline.ucRefs τ sig) (V0 m c) ∗ rest m c)
def Tₙ (c : Dev nD) : sProp 𝕄 := iprop(StableHlo.held (c : Thread nD τ) (Pipeline.ucRefs τ sig) (V₂ m c) ∗ semVal (barCell c) 0)

/-- What a device holds at launch that is not the protocol's. -/
def plain (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem T₀_intro (κ : GSem nD τ sig → ℕ) (c : Dev nD) : iprop(records (ct (inp m)) κ ∗ (dealt c ∗ plain m c)) ⊢ T₀ m c := by
  unfold plain T₀ rest kept
  iintro ⟨#HR, Hd, Hh, Hc, HO, Hp⟩
  isplitl [Hh]; · iexact Hh
  isplitl [Hp]; · iexact Hp
  isplitr [HO]
  · iexists κ
    isplitr; · iexact HR
    isplitl [Hd] <;> iassumption
  iexists ∅; iexact HO

theorem unscoped_sem : ∀ sm : SemLoc sig, sm.isScoped .tc = false → sm = .reg barS := by decide

theorem unscopedSems_bar (c : Dev nD) : (unscopedSems0 c : sProp 𝕄) = semVal (barCell c) 0 := by
  unfold unscopedSems0
  rw [show (Finset.univ.filter fun sm : SemLoc sig => ¬ sm.isScoped .tc = true) = {SemLoc.reg barS} from by decide, BI.bigSep_singleton]

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(plain m c ∗ (semVal (barCell c) 0 ∗ G c)) : sProp 𝕄) := by
    rw [show (unscopedBufs c (fun b => m ((c.tc : Thread nD τ).loc b)) : sProp 𝕄) = StableHlo.held (c : Thread nD τ) (Pipeline.ucRefs τ sig) (V0 m c) from
        (Pipeline.unscopedBufs_held (Ix := Unit) (Name := ℕ) (U := UU) (Lvl := ℕ) c (V0 m c)), unscopedSems_bar]
    unfold plain
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 16 => openTok ER ((c : Thread nD τ), .dma (ownS k))) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) from bigSep_mono fun c _ => hcore c) $$ H
  ihave H2 := unzip_sep $$ H'; icases H2 with ⟨HB, H3⟩
  ihave H4 := unzip_sep $$ H3; icases H4 with ⟨Hv, HG⟩
  ihave Hu := (show bigSep Finset.univ (G (F := F)) ⊢ BI.own (ER (launchOf barCells ownCells toks)) from
    Entails.of_eq (parked_all (F := F) (BI.own (ER (launchOf barCells ownCells toks))))) $$ HG
  imod (Rounds.fund_launch ER (Rd (ct (inp m))) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records (ct (inp m)) κ) (Φ := fun c => iprop(dealt c ∗ plain m c)) fun c _ => T₀_intro m κ c)
  isplitr
  · unfold records
    isplitr; · iexact Hinv
    iexact Hr
  iapply zip_sep
  isplitr [HB]
  · unfold dealt
    iapply zip_sep; isplitl [Hat]; · iapply hat $$ Hat
    iapply zip_sep; isplitl [Hopen]; · iapply hopen $$ Hopen
    iapply (Entails.of_eq (toks_dealt (F := F))) $$ Htok
  · iexact HB

/-! ## The run -/

theorem V₂_arg (c : Dev nD) (r : Ref sig .tc) (h : r ∉ hostOps0_W) (h' : (Proc.devRef .tc r : DevRef τ sig) ≠ Proc.devRef .tc main_v17) :
    V₂ m c (Proc.devRef .tc r) = m ((c : Thread nD τ).loc r) :=
  (V₂_of m c _ h').trans ((V1_of m c r h).trans rfl)

theorem uc_mem (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; decide⟩

/-- What a device's memory holds at the end. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v17) = outVal (inp m) c

theorem Ends_of (c : Dev nD) (s : MemSt nD τ sig (Elt F)) (h : ∀ b ∈ Pipeline.ucRefs τ sig, s.mem ((c : Dev nD), b) = V₂ m c b) : Ends m c s :=
  ⟨⟨(h _ (uc_mem main_arg0 rfl)).trans (V₂_arg m c main_arg0 (by decide) (by decide)),
    (h _ (uc_mem main_arg1 rfl)).trans (V₂_arg m c main_arg1 (by decide) (by decide)),
    (h _ (uc_mem main_arg2 rfl)).trans (V₂_arg m c main_arg2 (by decide) (by decide)),
    (h _ (uc_mem main_arg3 rfl)).trans (V₂_arg m c main_arg3 (by decide) (by decide)),
    (h _ (uc_mem main_arg4 rfl)).trans (V₂_arg m c main_arg4 (by decide) (by decide))⟩,
    (h _ (uc_mem main_v17 rfl)).trans (V₂_result m c)⟩

theorem read_off (c : Dev nD) (s' : Phys nD τ sig (Elt F)) :
    iprop(Tₙ m c ∗ SI s') ⊢ (|={Set.univ}=> iprop(⌜Ends m c s'.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V₂ m c) s') $$ [Hh HSI]
  · isplitl [Hh] <;> iassumption
  icases Hr with ⟨%h, HSI⟩
  imodintro
  isplitr
  · ipureintro
    exact ⟨Ends_of m c s'.mem h, by simpa using hb⟩
  iexact HSI

set_option backward.isDefEq.respectTransparency.types false in
/-- Every fair run of the program from zero counters ends with the arguments unchanged, each device's result buffer at the
    kernel's result, and every counter at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m 𝒱₀ L lv (fun _ => rest m) () (pdats m) (reg m))
    (fun c Q => by
      rewrite [main_chain c, Seg.run_eq_chain,
        show (segs m 𝒱₀ L lv (fun _ => rest m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, reg_pre m c, reg_post m c⟩)
    (hinit := init m ρ)
    (QY := fun c s => Ends m c s ∧ s.sem (barCell c) = 0)
    (hfin := read_off m)
    (hQ := fun s h hs => ⟨fun c => (h c).1, sem_eq_zero hs fun c sm hsm => by
      obtain rfl := unscoped_sem sm hsm
      exact (h c).2⟩)

end Cert.KernelIdeal.Exchange

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

/-! The frame claims: the kernel as written and its idealization run the same program text, so both come from the one run; the
reference's comes from its own. -/

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.KernelIdeal.Exchange.run_main (F := Ideal) m ρ)

set_option maxRecDepth 16384 in
theorem main_same : Cert.Kernel.main (F := Bits) = Cert.KernelIdeal.main (F := Bits) := rfl

set_option maxRecDepth 16384 in
theorem bodies_same : Cert.Kernel.defs₀ (F := Bits) = Cert.KernelIdeal.defs₀ (F := Bits) := by
  unfold Cert.Kernel.defs₀ Cert.KernelIdeal.defs₀
  refine congrArg Defs.onTc (funext fun l => funext fun ts => ?_)
  match l, ts with
  | 0, (t, s) => rfl
  | ⟨_ + 1, h⟩, _ => exact absurd h (Nat.not_lt.2 (Nat.le_add_left _ _))

set_option maxRecDepth 16384 in
theorem defs_same : Cert.Kernel.defs (F := Bits) = Cert.KernelIdeal.defs (F := Bits) :=
  congrArg (Pipeline.defs Cert.KernelIdeal.pcfgs) bodies_same

set_option maxRecDepth 16384 in
theorem frame_kernel : Cert.quiescent_Kernel (hKernel := Cert.Kernel.Gen.facts) := fun m ρ _ => by
  have h := (θ_run (Cert.KernelIdeal.defs (F := Bits)) (onTc (τ := Cert.KernelIdeal.τ) (Cert.KernelIdeal.main (F := Bits))) ⟨m, fun _ => 0, ρ⟩).mono
    (fun _ h => (⟨fun c => (h.1 c).1, h.2⟩ : _ ∧ _)) (Cert.KernelIdeal.Exchange.run_main (F := Bits) m ρ)
  rw [← defs_same, ← main_same] at h
  exact h

/-- The reference declares no semaphore, so none can end off zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Softmax.lean ====
module

public import Idealize.ShloMosaic.PureOps.Ideal

/-! A row's weights over the extended reals: subtracting a real number from every score before the exponentials leaves
the weighted mean as it was, and dividing the weighted sum by the sum of the weights is dividing each weight. The scores
are real numbers; the values may be infinite. -/

@[expose] public section

noncomputable section

namespace Cert.Proof

open Idealize.ShloMosaic
open scoped BigOperators

variable {ι : Type} [Fintype ι]

/-- The embedding of the reals commutes with finite sums. -/
theorem coe_sum (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A nonnegative real factor distributes over a finite sum, infinite terms included. -/
theorem sum_mul_real (s : Finset ι) (f : ι → EReal) {c : ℝ} (hc : 0 ≤ c) : (∑ j ∈ s, f j) * (c : EReal) = ∑ j ∈ s, f j * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem div_real (x : EReal) {y : ℝ} (h : y ≠ 0) : Ideal.div x (y : EReal) = x * ((y⁻¹ : ℝ) : EReal) := by
  rw [Ideal.div_coe h, one_div]

/-- The weighted mean of `v` by the exponentials of the scores, and by those of the scores less a number `M`. -/
theorem mean_shift [Nonempty ι] (s : ι → ℝ) (v : ι → EReal) (M : ℝ) :
    Ideal.div (∑ j, Ideal.exp (s j : EReal) * v j) (∑ j, Ideal.exp (s j : EReal))
      = ∑ j, v j * Ideal.div (Ideal.exp ((s j : EReal) - (M : EReal))) (∑ j, Ideal.exp ((s j : EReal) - (M : EReal))) := by
  have hD : (0 : ℝ) < ∑ j, Real.exp (s j) := Finset.sum_pos (fun j _ => Real.exp_pos _) Finset.univ_nonempty
  have hD' : (0 : ℝ) < ∑ j, Real.exp (s j - M) := Finset.sum_pos (fun j _ => Real.exp_pos _) Finset.univ_nonempty
  simp only [← EReal.coe_sub, Ideal.exp_coe, coe_sum]
  rw [div_real _ hD.ne', sum_mul_real _ _ (inv_nonneg.mpr hD.le)]
  refine Finset.sum_congr rfl fun j _ => ?_
  rw [div_real _ hD'.ne', mul_comm (v j), mul_assoc, mul_comm (v j), ← mul_assoc, ← EReal.coe_mul, ← EReal.coe_mul]
  congr 2
  have he : ∑ j, Real.exp (s j - M) = (∑ j, Real.exp (s j)) * (Real.exp M)⁻¹ := by
    simp only [Real.exp_sub, div_eq_mul_inv, Finset.sum_mul]
  rw [he, Real.exp_sub, mul_inv, inv_inv, div_eq_mul_inv]
  have := (Real.exp_pos M).ne'
  field_simp

/-- The mean of `v` weighted by the exponentials of `s`. -/
def mean (s v : ι → EReal) : EReal := Ideal.div (∑ j, Ideal.exp (s j) * v j) (∑ j, Ideal.exp (s j))

/-- The greatest of finitely many real numbers, folded from −∞, is a real number. -/
theorem fold_max_real [Nonempty ι] (s : ι → ℝ) : ∃ M : ℝ, Finset.univ.fold max (⊥ : EReal) (fun j => (s j : EReal)) = (M : EReal) := by
  obtain ⟨j, -, hj⟩ := Finset.exists_max_image Finset.univ s Finset.univ_nonempty
  refine ⟨s j, le_antisymm ?_ ?_⟩
  · rw [Finset.fold_max_le]
    exact ⟨bot_le, fun i hi => by exact_mod_cast hj i hi⟩
  · rw [Finset.le_fold_max]
    exact Or.inr ⟨j, Finset.mem_univ _, le_rfl⟩

/-- An extended real that is neither infinity is a real number. -/
theorem real_of_abs_lt {a : EReal} (h : max a (-a) < ⊤) : ∃ r : ℝ, a = (r : EReal) := by
  induction a with
  | bot => simp at h
  | top => simp at h
  | coe r => exact ⟨r, rfl⟩

/-- An extended real that is a real number. -/
def IsReal (a : EReal) : Prop := ∃ r : ℝ, a = (r : EReal)

theorem IsReal.mul {a b : EReal} : IsReal a → IsReal b → IsReal (a * b) := by
  rintro ⟨r, rfl⟩ ⟨s, rfl⟩
  exact ⟨r * s, (EReal.coe_mul r s).symm⟩

theorem isReal_sum (s : Finset ι) (f : ι → EReal) (h : ∀ j, IsReal (f j)) : IsReal (∑ j ∈ s, f j) := by
  choose r hr using h
  simp only [hr, coe_sum]
  exact ⟨_, rfl⟩

/-- The scale of the scores, one eighth. -/
theorem isReal_eighth : IsReal (Ideal.ofBits .f32 0x3E000000#32) := by
  simp [Ideal.ofBits, Ideal.ieee, -EReal.coe_mul]
  exact ⟨_, rfl⟩

theorem neg_inf : Ideal.ofBits .f32 0xFF800000#32 = ⊥ := by simp [Ideal.ofBits, Ideal.ieee]

/-- A row of real scores: the weighted mean, each weight computed less the row's greatest score. -/
theorem mean_eq [Nonempty ι] (s v : ι → EReal) (h : ∀ j, IsReal (s j)) :
    ∑ j, v j * Ideal.div (Ideal.exp (s j - Finset.univ.fold max (Ideal.ofBits .f32 0xFF800000#32) s))
        (∑ j', Ideal.exp (s j' - Finset.univ.fold max (Ideal.ofBits .f32 0xFF800000#32) s)) = mean s v := by
  choose r hr using h
  obtain rfl : s = fun j => (r j : EReal) := funext hr
  obtain ⟨M, hM⟩ := fold_max_real r
  rw [neg_inf, hM]
  exact (mean_shift r v M).symm

/-- A real factor moves out of a dot product of real numbers. -/
theorem dot_scale (a b : ι → EReal) (c : EReal) (ha : ∀ j, IsReal (a j)) (hb : ∀ j, IsReal (b j)) (hc : IsReal c) :
    ∑ j, a j * c * b j = (∑ j, a j * b j) * c := by
  choose r hr using ha
  choose s hs using hb
  obtain ⟨t, rfl⟩ := hc
  simp only [hr, hs, ← EReal.coe_mul, coe_sum]
  congr 1
  rw [Finset.sum_mul]
  exact Finset.sum_congr rfl fun j _ => by ring

/-! ## Sums over an index cut in blocks -/

/-- A sum over `n * m` positions is a double sum over the block and the place in it. -/
theorem sum_split {M : Type} [AddCommMonoid M] {n m N : ℕ} (hN : n * m = N) (f : Fin N → M) :
    ∑ p : Fin N, f p = ∑ h : Fin n, ∑ j : Fin m, f ⟨h.val * m + j.val, by
      have h1 := Nat.mul_le_mul_right m (Nat.succ_le_of_lt h.isLt)
      rw [Nat.succ_mul] at h1
      have h2 := j.isLt
      omega⟩ := by
  subst hN
  rw [← Equiv.sum_comp finProdFinEquiv, Fintype.sum_prod_type]
  refine Finset.sum_congr rfl fun h _ => Finset.sum_congr rfl fun j _ => congrArg f (Fin.ext ?_)
  show j.val + m * h.val = _
  rw [mul_comm, add_comm]

/-- A sum kept to one block of its positions is the sum over the block. -/
theorem sum_block {M : Type} [AddCommMonoid M] {N m h : ℕ} (hm : 0 < m) (hN : h * m + m ≤ N) (f : Fin N → M) :
    (∑ p : Fin N, if p.val / m = h then f p else 0) = ∑ j : Fin m, f ⟨h * m + j.val, by omega⟩ := by
  rw [← Finset.sum_filter]
  symm
  refine Finset.sum_bij (fun j _ => (⟨h * m + j.val, by omega⟩ : Fin N)) ?_ ?_ ?_ ?_
  · intro j _
    simp only [Finset.mem_filter, Finset.mem_univ, true_and]
    rw [Nat.mul_comm, Nat.mul_add_div hm, Nat.div_eq_of_lt j.isLt, Nat.add_zero]
  · intro a _ b _ e
    have := congrArg Fin.val e
    exact Fin.ext (Nat.add_left_cancel this)
  · intro p hp
    simp only [Finset.mem_filter, Finset.mem_univ, true_and] at hp
    refine ⟨⟨p.val % m, Nat.mod_lt _ hm⟩, Finset.mem_univ _, Fin.ext ?_⟩
    show h * m + p.val % m = p.val
    rw [← hp, Nat.mul_comm]
    exact Nat.div_add_mod _ _
  · intro j _
    rfl

end Cert.Proof
end
-- ==== Proof.RefValue.lean ====
module

public import proofs.«01_k».proof.Proof.Gen.ReferenceIdeal.Run
public import Idealize.ShloMosaic.Lib.Pointwise
public import proofs.«01_k».proof.Proof.Softmax

/-! The reference's result, element by element, over the extended reals: the window keeps every pair of positions, so each
row is the weighted mean of the values by the exponentials of the scaled scores, and the result its product with the
output weights. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open scoped BigOperators
open Cert.Proof

/-! ## The result's term in stages -/

section Stages
variable {F : FTy → Type} [FloatOps F]

/-- Which pairs of positions the window keeps. -/
def windowT : IVec S128x128 1 :=
  cmpi .sle (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 128#32))

/-- Which rows keep some position. -/
def rowsT : IVec S128 1 := Host.reduce IntOp.ori windowT (constantI S_ 1 0#1) reducesTo_S128x128_S128_d1 h_S_

/-- The queries by head. -/
def queriesT (x : FVec F S2x128x512 .bf16) (wq : FVec F S512x1024 .bf16) : FVec F S2x128x16x64 .bf16 :=
  shapeCast _ (truncf .bf16 (Host.dotGeneral dot_S2x128x512_S512x1024_S2x128x1024_2_0_01_1_n_n none x wq) bitsLt_bf16_f32) shapeCasts_S2x128x1024_S2x128x16x64

/-- The scores under the window. -/
def scoresT (q k : FVec F S2x128x16x64 .bf16) : FVec F S2x16x128x128 .f32 :=
  select (broadcastInDim S2x16x128x128 ![0, 1, 2, 3] bcast_S1x1x128x128_S2x16x128x128_0_1_2_3 (broadcastInDim S1x1x128x128 ![2, 3] bcast_S128x128_S1x1x128x128_2_3 windowT))
    (mulf (extf .f32 (truncf .bf16 (Host.dotGeneral dot_S2x128x16x64_S2x128x16x64_S2x16x128x128_3_3_1_1_02_02 none q k) bitsLt_bf16_f32) bitsLt_bf16_f32) (broadcastInDim S2x16x128x128 ![] bcast_S_S2x16x128x128 (constant S_ .f32 0x3E000000#32)))
    (broadcastInDim S2x16x128x128 ![] bcast_S_S2x16x128x128 (id (constant S_ .f32 0xCE6E6B28#32)))

/-- The exponentials of the scores less the row's greatest. -/
def expsT (s : FVec F S2x16x128x128 .f32) : FVec F S2x16x128x128 .f32 :=
  Host.exp (subf s (broadcastInDim S2x16x128x128 ![0, 1, 2, 3] bcast_S2x16x128x1_S2x16x128x128_0_1_2_3 (broadcastInDim S2x16x128x1 ![0, 1, 2] bcast_S2x16x128_S2x16x128x1_0_1_2 (Host.reduce FloatOps.maximumf s (constant S_ .f32 0xFF800000#32) reducesTo_S2x16x128x128_S2x16x128_d3 h_S_))))

/-- The weights. -/
def weightsT (e : FVec F S2x16x128x128 .f32) : FVec F S2x16x128x128 .f32 :=
  select (broadcastInDim S2x16x128x128 ![0, 1, 2, 3] bcast_S1x1x128x1_S2x16x128x128_0_1_2_3 (broadcastInDim S1x1x128x1 ![2] bcast_S128_S1x1x128x1_2 rowsT))
    (Host.divf e (broadcastInDim S2x16x128x128 ![0, 1, 2, 3] bcast_S2x16x128x1_S2x16x128x128_0_1_2_3 (select (broadcastInDim S2x16x128x1 ![0, 1, 2, 3] bcast_S1x1x128x1_S2x16x128x1_0_1_2_3 (broadcastInDim S1x1x128x1 ![2] bcast_S128_S1x1x128x1_2 rowsT)) (broadcastInDim S2x16x128x1 ![0, 1, 2] bcast_S2x16x128_S2x16x128x1_0_1_2 (Host.reduceAdd e (constant S_ .f32 0x00000000#32) reducesTo_S2x16x128x128_S2x16x128_d3 h_S_)) (broadcastInDim S2x16x128x1 ![] bcast_S_S2x16x128x1 (id (constant S_ .f32 0x3F800000#32))))))
    (broadcastInDim S2x16x128x128 ![] bcast_S_S2x16x128x128 (id (constant S_ .f32 0x00000000#32)))

/-- The weighted means of the values through the output weights. -/
def resultT (w : FVec F S2x16x128x128 .f32) (v : FVec F S2x128x16x64 .bf16) (wo : FVec F S1024x512 .bf16) : FVec F S2x128x512 .bf16 :=
  truncf .bf16 (Host.dotGeneral dot_S2x128x1024_S1024x512_S2x128x512_2_0_01_1_n_n none (shapeCast S2x128x1024 (transpose S2x128x16x64 [0, 3, 1, 2] (Host.dotGeneral dot_S2x128x16x64_S2x16x128x128_S2x16x64x128_1_3_3_2_02_01 none (extf .f32 v bitsLt_bf16_f32) w) transposes_S2x16x64x128_S2x128x16x64_0_3_1_2) shapeCasts_S2x128x16x64_S2x128x1024) (extf .f32 wo bitsLt_bf16_f32)) bitsLt_bf16_f32

theorem result_eq (m : (ℓ : Loc nD τ sig) → Buf (Elt F) ℓ) (c : Dev nD) :
    res_main_v40 m c = resultT (weightsT (expsT (scoresT (queriesT (m ((c.tc : Thread nD τ).loc main_arg0)) (m ((c.tc : Thread nD τ).loc main_arg1))) (m ((c.tc : Thread nD τ).loc main_arg2)))))
      (m ((c.tc : Thread nD τ).loc main_arg3)) (m ((c.tc : Thread nD τ).loc main_arg4)) := rfl

end Stages

/-! ## The stages at an index -/

theorem word_window : ∀ i j : Fin 128, IntOp.cmpi CmpIPredicate.sle (IntOp.absi (IntOp.subi (BitVec.ofNat 32 i.val) (BitVec.ofNat 32 j.val))) 128#32 = 1#1 := by
  decide +kernel

theorem window_apply (i j : Fin 128) : windowT (ix2 i j) = 1#1 := by
  pointwise [windowT]
  exact word_window i j

theorem rows_apply (i : Fin 128) : rowsT (ix1 i) = 1#1 := by
  pointwise [rowsT]
  simp only [window_apply]
  decide

theorem queries_apply (x : FVec Ideal S2x128x512 .bf16) (wq : FVec Ideal S512x1024 .bf16) (b : Fin 2) (i : Fin 128) (h : Fin 16) (d : Fin 64) :
    queriesT x wq (ix4 b i h d) = ∑ m : Fin 512, x (ix3 b i m) * wq (ix2 m ⟨h.val * 64 + d.val, by omega⟩) := by
  pointwise [queriesT]

theorem scores_apply (q k : FVec Ideal S2x128x16x64 .bf16) (b : Fin 2) (h : Fin 16) (i j : Fin 128) :
    scoresT q k (ix4 b h i j) = (∑ d : Fin 64, q (ix4 b i h d) * k (ix4 b j h d)) * Ideal.ofBits .f32 0x3E000000#32 := by
  pointwise [scoresT]
  rw [window_apply]
  rfl

theorem exps_apply (s : FVec Ideal S2x16x128x128 .f32) (b : Fin 2) (h : Fin 16) (i j : Fin 128) :
    expsT s (ix4 b h i j) = Ideal.exp (s (ix4 b h i j) - Finset.univ.fold max (Ideal.ofBits .f32 0xFF800000#32) fun j' : Fin 128 => s (ix4 b h i j')) := by
  pointwise [expsT]

theorem weights_apply (e : FVec Ideal S2x16x128x128 .f32) (b : Fin 2) (h : Fin 16) (i j : Fin 128) :
    weightsT e (ix4 b h i j) = Ideal.div (e (ix4 b h i j)) (∑ j' : Fin 128, e (ix4 b h i j')) := by
  pointwise [weightsT]
  rw [rows_apply]
  rfl

theorem result_apply (w : FVec Ideal S2x16x128x128 .f32) (v : FVec Ideal S2x128x16x64 .bf16) (wo : FVec Ideal S1024x512 .bf16) (b : Fin 2) (i : Fin 128) (n : Fin 512) :
    resultT w v wo (ix3 b i n) = ∑ f : Fin 1024, (∑ j : Fin 128, v (ix4 b j ⟨f.val / 64, by omega⟩ ⟨f.val % 64, by omega⟩) * w (ix4 b ⟨f.val / 64, by omega⟩ i j)) * wo (ix2 f n) := by
  pointwise [resultT]

/-! ## The result -/

/-- The score of query position `i` against key position `j`, in head `h` of batch `b`. -/
def score (x : FVec Ideal S2x128x512 .bf16) (wq : FVec Ideal S512x1024 .bf16) (k : FVec Ideal S2x128x16x64 .bf16) (b : Fin 2) (h : Fin 16) (i j : Fin 128) : EReal :=
  (∑ d : Fin 64, (∑ m : Fin 512, x (ix3 b i m) * wq (ix2 m ⟨h.val * 64 + d.val, by omega⟩)) * k (ix4 b j h d)) * Ideal.ofBits .f32 0x3E000000#32

theorem isReal_score {x : FVec Ideal S2x128x512 .bf16} {wq : FVec Ideal S512x1024 .bf16} {k : FVec Ideal S2x128x16x64 .bf16}
    (hx : ∀ i, IsReal (x i)) (hq : ∀ i, IsReal (wq i)) (hk : ∀ i, IsReal (k i)) (b : Fin 2) (h : Fin 16) (i j : Fin 128) : IsReal (score x wq k b h i j) :=
  (isReal_sum _ _ fun d => (isReal_sum _ _ fun m => (hx _).mul (hq _)).mul (hk _)).mul isReal_eighth

/-- Every element of the reference's result, where the activations, query weights and keys are real numbers. -/
theorem stages_apply {x : FVec Ideal S2x128x512 .bf16} {wq : FVec Ideal S512x1024 .bf16} {k : FVec Ideal S2x128x16x64 .bf16} (v : FVec Ideal S2x128x16x64 .bf16) (wo : FVec Ideal S1024x512 .bf16)
    (hx : ∀ i, IsReal (x i)) (hq : ∀ i, IsReal (wq i)) (hk : ∀ i, IsReal (k i)) (b : Fin 2) (i : Fin 128) (n : Fin 512) :
    resultT (weightsT (expsT (scoresT (queriesT x wq) k))) v wo (ix3 b i n)
      = ∑ f : Fin 1024, mean (score x wq k b ⟨f.val / 64, by omega⟩ i) (fun j : Fin 128 => v (ix4 b j ⟨f.val / 64, by omega⟩ ⟨f.val % 64, by omega⟩)) * wo (ix2 f n) := by
  have h (h' : Fin 16) (j : Fin 128) : scoresT (queriesT x wq) k (ix4 b h' i j) = score x wq k b h' i j := by
    rw [scores_apply]
    simp only [queries_apply]
    rfl
  rw [result_apply]
  refine Finset.sum_congr rfl fun f _ => ?_
  congr 1
  rw [← mean_eq _ _ (isReal_score hx hq hk b _ i)]
  simp only [weights_apply, exps_apply, h]

end Cert.ReferenceIdeal.Value
end
-- ==== Proof.FillValue.lean ====
module

public import proofs.«01_k».proof.Proof.Fill
public import Idealize.ShloMosaic.Lib.Pointwise

/-! The two filled buffers, element by element: row `128 h + p` of batch `b` holds position `p` of head `h` in the head's
own 64 columns and zero in every other. -/

@[expose] public section

noncomputable section

namespace Cert.KernelIdeal.Exchange

open Cert.KernelIdeal Cert.KernelIdeal.Gen
open Idealize.ShloMosaic
open Idealize.ShloMosaic.TcCoe
open Idealize.SL.Sem

/-- An element of the filled buffer read as a position of its block. -/
def inBlock (i : S2x512x256.Idx) : S1x128x64.Idx :=
  ix3 (n0 := 1) (n1 := 128) (n2 := 64) ⟨0, by decide⟩ ⟨(i 1).val % 128, Nat.mod_lt _ (by decide)⟩ ⟨(i 2).val % 64, Nat.mod_lt _ (by decide)⟩

section Puts
variable {F : FTy → Type} [FloatOps F]

/-- A stored block, element by element. -/
theorem kPut_at (b r h : ℕ) (hi : ∀ a, (![b, 128 * r, 64 * h] : Fin 3 → ℕ) a + S1x128x64.size a ≤ S2x512x256.size a)
    (f : Vec F S2x512x256 .bf16) (w : Vec F S1x128x64 .bf16) (i : S2x512x256.Idx) :
    kPut f ![b, 128 * r, 64 * h] hi w i = if (i 0).val = b ∧ (i 1).val / 128 = r ∧ (i 2).val / 64 = h then w (inBlock i) else f i := by
  have hmem : i ∈ (Rect.unit (s := S2x512x256) ![b, 128 * r, 64 * h] S1x128x64.size hi).set ↔ (i 0).val = b ∧ (i 1).val / 128 = r ∧ (i 2).val / 64 = h := by
    rw [Rect.mem_set_unit]
    constructor
    · intro h'
      have h0 := h' ⟨0, by decide⟩
      have h1 := h' ⟨1, by decide⟩
      have h2 := h' ⟨2, by decide⟩
      change b ≤ (i 0).val ∧ (i 0).val < b + 1 at h0
      change 128 * r ≤ (i 1).val ∧ (i 1).val < 128 * r + 128 at h1
      change 64 * h ≤ (i 2).val ∧ (i 2).val < 64 * h + 64 at h2
      omega
    · rintro ⟨h0, h1, h2⟩ a
      match a with
      | ⟨0, _⟩ => change b ≤ (i 0).val ∧ (i 0).val < b + 1; omega
      | ⟨1, _⟩ => change 128 * r ≤ (i 1).val ∧ (i 1).val < 128 * r + 128; omega
      | ⟨2, _⟩ => change 64 * h ≤ (i 2).val ∧ (i 2).val < 64 * h + 64; omega
  unfold kPut
  split
  · next hc =>
    obtain ⟨x, hx⟩ := LoadRect.exists_idx_of_mem _ (hmem.mpr hc)
    have hxi : inBlock i = x := by
      rw [← hx]
      funext a
      apply Fin.ext
      match a with
      | ⟨0, h'⟩ => exact (Nat.lt_one_iff.mp (x ⟨0, h'⟩).isLt).symm
      | ⟨1, h'⟩ =>
        have := (x ⟨1, h'⟩).isLt
        change (x ⟨1, h'⟩).val < 128 at this
        show (128 * r + 1 * (x ⟨1, h'⟩).val) % 128 = (x ⟨1, h'⟩).val
        omega
      | ⟨2, h'⟩ =>
        have := (x ⟨2, h'⟩).isLt
        change (x ⟨2, h'⟩).val < 64 at this
        show (64 * h + 1 * (x ⟨2, h'⟩).val) % 64 = (x ⟨2, h'⟩).val
        omega
    rw [hxi]
    rw [← hx]
    exact ((kbM.access (Rect.unit (s := S2x512x256) ![b, 128 * r, 64 * h] S1x128x64.size hi)).write_emb_of_mem (Val := Elt F) f w (Finset.mem_univ x))
  · next hc =>
    refine (kbM.access (Rect.unit (s := S2x512x256) ![b, 128 * r, 64 * h] S1x128x64.size hi)).write_of_not_mem (Val := Elt F) f w _ ?_
    intro hm
    refine hc (hmem.mp ?_)
    obtain ⟨x, -, hx⟩ := Finset.mem_map.mp hm
    rw [← Rect.map_emb_univ]
    exact Finset.mem_map.mpr ⟨x, Finset.mem_univ x, hx⟩

/-- The value buffer is filled as the key buffer is. -/
theorem vFill_eq (V : Vec F S2x4x128x64 .bf16) : vFill V = kFill V := rfl

/-- One head's block, flattened as it is stored. -/
theorem head_at (K : Vec F S2x4x128x64 .bf16) (b h : ℕ) (hb : b < 2) (hh : h < 4) (hi : ∀ a, (![b, h, 0, 0] : Fin 4 → ℕ) a + S1x1x128x64.size a ≤ S2x4x128x64.size a)
    (p : Fin 128) (d : Fin 64) :
    k0_pay4 (kHead K ![b, h, 0, 0] hi) (ix3 ⟨0, by decide⟩ p d) = K (ix4 ⟨b, hb⟩ ⟨h, hh⟩ p d) := by
  pointwise [k0_pay4]
  refine congrArg K (funext fun a => Fin.ext ?_)
  match a with
  | ⟨0, _⟩ => show b + 1 * 0 = b; omega
  | ⟨1, _⟩ => show h + 1 * 0 = h; omega
  | ⟨2, _⟩ => show 0 + 1 * p.val = p.val; omega
  | ⟨3, _⟩ => show 0 + 1 * d.val = d.val; omega

end Puts

theorem put_inb (b : Fin 2) (r : Fin 4) : ∀ a, (![b.val, 128 * r.val, 64 * r.val] : Fin 3 → ℕ) a + S1x128x64.size a ≤ S2x512x256.size a := by
  revert b r; decide

theorem head_inb (b : Fin 2) (r : Fin 4) : ∀ a, (![b.val, r.val, 0, 0] : Fin 4 → ℕ) a + S1x1x128x64.size a ≤ S2x4x128x64.size a := by
  revert b r; decide

/-- One head of one batch stored over `g`. -/
def kStep (K : Vec Ideal S2x4x128x64 .bf16) (b : Fin 2) (r : Fin 4) (g : Vec Ideal S2x512x256 .bf16) : Vec Ideal S2x512x256 .bf16 :=
  kPut g ![b.val, 128 * r.val, 64 * r.val] (put_inb b r) (k0_pay4 (kHead K ![b.val, r.val, 0, 0] (head_inb b r)))

theorem kFill_steps (K : Vec Ideal S2x4x128x64 .bf16) :
    kFill K = kStep K 1 3 (kStep K 1 2 (kStep K 1 1 (kStep K 1 0 (kStep K 0 3 (kStep K 0 2 (kStep K 0 1 (kStep K 0 0 (k0_pay2 (F := Ideal))))))))) := rfl

theorem kStep_at (K : Vec Ideal S2x4x128x64 .bf16) (β : Fin 2) (r : Fin 4) (g : Vec Ideal S2x512x256 .bf16) (b : Fin 2) (p : Fin 512) (f : Fin 256) :
    kStep K β r g (ix3 b p f) = if b.val = β.val ∧ p.val / 128 = r.val ∧ f.val / 64 = r.val
      then K (ix4 b ⟨p.val / 128, by omega⟩ ⟨p.val % 128, by omega⟩ ⟨f.val % 64, by omega⟩) else g (ix3 b p f) := by
  refine (kPut_at β.val r.val r.val (put_inb β r) g _ _).trans ?_
  show (if b.val = β.val ∧ p.val / 128 = r.val ∧ f.val / 64 = r.val then _ else _) = _
  split
  · next hc =>
    refine (head_at K β.val r.val β.isLt r.isLt (head_inb β r) _ _).trans ?_
    refine congrArg K (funext fun a => Fin.ext ?_)
    match a with
    | ⟨0, _⟩ => exact hc.1.symm
    | ⟨1, _⟩ => exact hc.2.1.symm
    | ⟨2, _⟩ => rfl
    | ⟨3, _⟩ => rfl
  · rfl

/-- The filled buffer, element by element. -/
theorem kFill_at (K : Vec Ideal S2x4x128x64 .bf16) (b : Fin 2) (p : Fin 512) (f : Fin 256) :
    kFill K (ix3 b p f) = if p.val / 128 = f.val / 64 then K (ix4 b ⟨p.val / 128, by omega⟩ ⟨p.val % 128, by omega⟩ ⟨f.val % 64, by omega⟩) else (0 : EReal) := by
  have hz : ((k0_pay2 (F := Ideal) : FVec Ideal S2x512x256 .bf16) (ix3 b p f) : EReal) = 0 := by
    pointwise [k0_pay2]
  rw [kFill_steps]
  simp only [kStep_at]
  rw [hz]
  have hb := b.isLt
  have hp := p.isLt
  simp only [← ite_or]
  refine if_congr ?_ rfl rfl
  simp only [Fin.val_zero, Fin.val_one, Fin.val_two, show (3 : Fin 4).val = 3 from rfl]
  omega

/-- A batch's rows of the filled key buffer, element by element. -/
theorem kRow_at (K : Vec Ideal S2x4x128x64 .bf16) (b : ℕ) (hb : b < 2) (h) (p : Fin 512) (f : Fin 256) :
    kRow K ![b, 0, 0] h (ix3 ⟨0, by decide⟩ p f)
      = if p.val / 128 = f.val / 64 then K (ix4 ⟨b, hb⟩ ⟨p.val / 128, by omega⟩ ⟨p.val % 128, by omega⟩ ⟨f.val % 64, by omega⟩) else (0 : EReal) := by
  refine Eq.trans ?_ (kFill_at K ⟨b, hb⟩ p f)
  refine congrArg (kFill K) (funext fun a => Fin.ext ?_)
  match a with
  | ⟨0, _⟩ => show b + 1 * 0 = b; omega
  | ⟨1, _⟩ => show 0 + 1 * p.val = p.val; omega
  | ⟨2, _⟩ => show 0 + 1 * f.val = f.val; omega

/-- A batch's rows of the filled value buffer are read as those of the key buffer are. -/
theorem vRow_eq (V : Vec Ideal S2x4x128x64 .bf16) (o h) : vRow V o h = kRow V o h := rfl

end Cert.KernelIdeal.Exchange

end
-- ==== Proof.ShareValue.lean ====
module

public import proofs.«01_k».proof.Proof.FillValue
public import proofs.«01_k».proof.Proof.Whole
public import proofs.«01_k».proof.Proof.Softmax

/-! A device's partial results, element by element: each row is, head by head, the mean of the device's values weighted by
the exponentials of its scores, times the device's rows of the output weights. -/

@[expose] public section

noncomputable section

namespace Cert.KernelIdeal.Exchange

open Cert.KernelIdeal Cert.KernelIdeal.Gen
open Idealize.ShloMosaic
open Idealize.ShloMosaic.TcCoe
open Idealize.SL.Sem
open scoped BigOperators
open Cert.Proof

/-! ## The matrix of ones -/

/-- A word's quotient by another rounded down, as the kernel computes it. -/
def downW (a d : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector a d) 0#32))
    (IntOp.subi (IntOp.divsi ArithUnit.vector a d) 1#32)
    (IntOp.divsi ArithUnit.vector a d)

theorem downW_row : ∀ p : Fin 512, downW (BitVec.ofNat 32 p.val) 128#32 = BitVec.ofNat 32 (p.val / 128) := by decide +kernel

theorem downW_col : ∀ f : Fin 256, downW (BitVec.ofNat 32 f.val) 64#32 = BitVec.ofNat 32 (f.val / 64) := by decide +kernel

theorem word_eq : ∀ a b : Fin 4, (BitVec.setWidth 32 (IntOp.cmpi CmpIPredicate.eq (BitVec.ofNat 32 a.val) (BitVec.ofNat 32 b.val))).toInt = if a.val = b.val then 1 else 0 := by
  decide +kernel

theorem ones_at (p : Fin 512) (f : Fin 256) : (ones (F := Ideal) : FVec Ideal S512x256 .bf16) (ix2 p f) = if p.val / 128 = f.val / 64 then (1 : EReal) else 0 := by
  pointwise [ones, k0_pay24, k0_pay21, k0_pay22, k0_pay23]
  show FloatOps.sitofp FTy.f32 (BitVec.setWidth 32 (IntOp.cmpi CmpIPredicate.eq (downW (BitVec.ofNat 32 p.val) 128#32) (downW (BitVec.ofNat 32 f.val) 64#32))) = _
  rw [downW_row, downW_col]
  show (((BitVec.setWidth 32 (IntOp.cmpi CmpIPredicate.eq (BitVec.ofNat 32 (p.val / 128)) (BitVec.ofNat 32 (f.val / 64)))).toInt : ℝ) : EReal) = _
  rw [word_eq ⟨p.val / 128, by omega⟩ ⟨f.val / 64, by omega⟩]
  show (((if p.val / 128 = f.val / 64 then (1 : ℤ) else 0 : ℤ) : ℝ) : EReal) = _
  split <;> simp

/-! ## The shares -/

/-- The scaled queries. -/
theorem pay25_at (x : FVec Ideal S2x128x512 .bf16) (q : FVec Ideal S512x256 .bf16) (i f : Fin 256) :
    k0_pay25 (F := Ideal) x q (ix2 i f) = (∑ m : Fin 512, x (ix3 ⟨i.val / 128, by omega⟩ ⟨i.val % 128, by omega⟩ m) * q (ix2 m f)) * Ideal.ofBits .f32 0x3E000000#32 := by
  pointwise [k0_pay25]

/-- A row of a share over the scaled queries `q`, the matrix `o` and a batch's filled rows. -/
def rawRow (q : FVec Ideal S256x256 .f32) (o : FVec Ideal S512x256 .bf16) (k v : FVec Ideal S1x512x256 .bf16) (w : FVec Ideal S256x512 .bf16) (i : Fin 256) (n : Fin 512) : EReal :=
  ∑ f : Fin 256, Ideal.div (∑ p : Fin 512, Ideal.exp (∑ g : Fin 256, q (ix2 i g) * k (ix3 ⟨0, by decide⟩ p g)) * v (ix3 ⟨0, by decide⟩ p f))
    (∑ p : Fin 512, Ideal.exp (∑ g : Fin 256, q (ix2 i g) * k (ix3 ⟨0, by decide⟩ p g)) * o (ix2 p f)) * w (ix2 f n)

theorem raw0 (x : FVec Ideal S2x128x512 .bf16) (q : FVec Ideal S512x256 .bf16) (o : FVec Ideal S512x256 .bf16) (k v : FVec Ideal S1x512x256 .bf16) (w : FVec Ideal S256x512 .bf16) (r : Fin 64) (n : Fin 512) :
    k0_pay29 (F := Ideal) o (k0_pay26 w) (k0_pay27 x q k) (k0_pay28 x q k v) (constant S64x256 .f32 0x00000000#32) (ix4 ⟨0, by decide⟩ ⟨0, by decide⟩ r n)
      = rawRow (k0_pay25 x q) o k v w ⟨r.val, by omega⟩ n := by
  pointwise [k0_pay29, k0_pay26, k0_pay27, k0_pay28]
  rfl

theorem raw1 (q : FVec Ideal S256x256 .f32) (o : FVec Ideal S512x256 .bf16) (k v : FVec Ideal S1x512x256 .bf16) (w : FVec Ideal S256x512 .bf16) (r : Fin 64) (n : Fin 512) :
    k0_pay33 (F := Ideal) (k0_pay26 w) (k0_pay31 q k v) (k0_pay32 o q k) (ix4 ⟨0, by decide⟩ ⟨0, by decide⟩ r n)
      = rawRow q o k v w ⟨64 + r.val, by omega⟩ n := by
  pointwise [k0_pay33, k0_pay26, k0_pay31, k0_pay32, k0_pay30]
  rfl

theorem raw2 (q : FVec Ideal S256x256 .f32) (o : FVec Ideal S512x256 .bf16) (k v : FVec Ideal S1x512x256 .bf16) (w : FVec Ideal S256x512 .bf16) (r : Fin 64) (n : Fin 512) :
    k0_pay35 (F := Ideal) (k0_pay34 o q (k0_pay26 w) k v) (ix4 ⟨0, by decide⟩ ⟨0, by decide⟩ r n)
      = rawRow q o k v w ⟨128 + r.val, by omega⟩ n := by
  pointwise [k0_pay35, k0_pay26, k0_pay34]
  rfl

theorem raw3 (q : FVec Ideal S256x256 .f32) (o : FVec Ideal S512x256 .bf16) (k v : FVec Ideal S1x512x256 .bf16) (w : FVec Ideal S256x512 .bf16) (r : Fin 64) (n : Fin 512) :
    k0_pay37 (F := Ideal) (k0_pay36 o q (k0_pay26 w) k v) (ix4 ⟨0, by decide⟩ ⟨0, by decide⟩ r n)
      = rawRow q o k v w ⟨192 + r.val, by omega⟩ n := by
  pointwise [k0_pay37, k0_pay26, k0_pay36]
  rfl

/-! ## A share's rows by head -/

/-- The score of query position `i` against key position `j`, in the device's head `h` of batch `b`. -/
def headScore (I : Ins Ideal) (b : Fin 2) (h : Fin 4) (i j : Fin 128) : EReal :=
  (∑ d : Fin 64, (∑ m : Fin 512, I.x (ix3 b i m) * I.q (ix2 m ⟨h.val * 64 + d.val, by omega⟩) : EReal) * I.k (ix4 b h j d)) * Ideal.ofBits .f32 0x3E000000#32

/-- A device's part of row `i` of batch `b` of the result. -/
def headRow (I : Ins Ideal) (b : Fin 2) (i : Fin 128) (n : Fin 512) : EReal :=
  ∑ f : Fin 256, mean (headScore I b ⟨f.val / 64, by omega⟩ i) (fun j : Fin 128 => (I.v (ix4 b ⟨f.val / 64, by omega⟩ j ⟨f.val % 64, by omega⟩) : EReal)) * I.w (ix2 f n)

/-- A device's activations, query weights and keys are real numbers. -/
structure RealIns (I : Ins Ideal) : Prop where
  x : ∀ i, IsReal (I.x i)
  q : ∀ i, IsReal (I.q i)
  k : ∀ i, IsReal (I.k i)

theorem rawScore {I : Ins Ideal} (hI : RealIns I) (b : Fin 2) (hb) (i : Fin 128) (h : Fin 4) (j : Fin 128) :
    (∑ g : Fin 256, (k0_pay25 (F := Ideal) I.x I.q (ix2 ⟨b.val * 128 + i.val, by omega⟩ g) : EReal) * kRow I.k ![b.val, 0, 0] hb (ix3 ⟨0, by decide⟩ ⟨h.val * 128 + j.val, by omega⟩ g))
      = headScore I b h i j := by
  have e (g : Fin 256) : (k0_pay25 (F := Ideal) I.x I.q (ix2 ⟨b.val * 128 + i.val, by omega⟩ g) : EReal) * kRow I.k ![b.val, 0, 0] hb (ix3 ⟨0, by decide⟩ ⟨h.val * 128 + j.val, by omega⟩ g)
      = if g.val / 64 = h.val then (∑ m : Fin 512, I.x (ix3 b i m) * I.q (ix2 m g) : EReal) * Ideal.ofBits .f32 0x3E000000#32 * I.k (ix4 b h j ⟨g.val % 64, by omega⟩) else (0 : EReal) := by
    rw [pay25_at, kRow_at I.k b.val b.isLt]
    have h1 : (h.val * 128 + j.val) / 128 = h.val := by omega
    have h2 : (h.val * 128 + j.val) % 128 = j.val := by omega
    have h3 : (b.val * 128 + i.val) / 128 = b.val := by omega
    have h4 : (b.val * 128 + i.val) % 128 = i.val := by omega
    simp only [h1, h2, h3, h4, mul_ite, mul_zero, eq_comm (a := h.val)]
  simp only [e]
  rw [sum_block (by decide) (by omega) (fun g : Fin 256 => (∑ m : Fin 512, I.x (ix3 b i m) * I.q (ix2 m g) : EReal) * Ideal.ofBits .f32 0x3E000000#32 * I.k (ix4 b h j ⟨g.val % 64, by omega⟩))]
  rw [dot_scale _ _ _ (fun d => isReal_sum _ _ fun m => (hI.x _).mul (hI.q _)) (fun d => hI.k _) isReal_eighth]
  unfold headScore
  refine congrArg (· * Ideal.ofBits .f32 0x3E000000#32) (Finset.sum_congr rfl fun d _ => ?_)
  have h5 : (h.val * 64 + d.val) % 64 = d.val := by omega
  simp only [h5]

theorem rawRow_eq {I : Ins Ideal} (hI : RealIns I) (b : Fin 2) (hb) (i : Fin 128) (n : Fin 512) :
    rawRow (k0_pay25 I.x I.q) ones (kRow I.k ![b.val, 0, 0] hb) (kRow I.v ![b.val, 0, 0] hb) I.w ⟨b.val * 128 + i.val, by omega⟩ n = headRow I b i n := by
  unfold rawRow headRow
  refine Finset.sum_congr rfl fun f _ => congrArg (· * (I.w (ix2 f n) : EReal)) ?_
  unfold mean
  have hf : f.val / 64 < 4 := by omega
  congr 1
  · simp only [kRow_at I.v b.val b.isLt, mul_ite, mul_zero]
    rw [sum_block (h := f.val / 64) (by decide) (by omega)]
    refine Finset.sum_congr rfl fun j _ => ?_
    rw [rawScore hI b hb i ⟨f.val / 64, hf⟩ j]
    have h1 : (f.val / 64 * 128 + j.val) / 128 = f.val / 64 := by omega
    have h2 : (f.val / 64 * 128 + j.val) % 128 = j.val := by omega
    simp only [h1, h2]
  · simp only [ones_at, mul_ite, mul_zero, mul_one]
    rw [sum_block (h := f.val / 64) (by decide) (by omega)]
    refine Finset.sum_congr rfl fun j _ => ?_
    rw [rawScore hI b hb i ⟨f.val / 64, hf⟩ j]

end Cert.KernelIdeal.Exchange

end
-- ==== Proof.OutValue.lean ====
module

public import proofs.«01_k».proof.Proof.ShareValue
public import proofs.«01_k».proof.Proof.Result

/-! The result on every device, element by element: two rounds of exchange leave the sum of the four devices' parts. -/

@[expose] public section

noncomputable section

namespace Cert.KernelIdeal.Exchange

open Cert.KernelIdeal Cert.KernelIdeal.Gen
open Idealize.ShloMosaic
open Idealize.ShloMosaic.TcCoe
open Idealize.SL.Sem
open scoped BigOperators
open Cert.Proof

/-! ## The shares at their rows -/

theorem share0_at {I : Ins Ideal} (hI : RealIns I) (r : Fin 64) (n : Fin 512) :
    (share0 I (ix4 ⟨0, by decide⟩ ⟨0, by decide⟩ r n) : EReal) = headRow I 0 ⟨r.val, by omega⟩ n := by
  refine (raw0 I.x I.q ones _ _ I.w r n).trans (Eq.trans ?_ (rawRow_eq hI 0 inb_S2x512x256_S1x512x256_0_0_0 ⟨r.val, by omega⟩ n))
  exact congrArg (fun i => rawRow _ _ _ _ _ i n) (Fin.ext (by show r.val = 0 * 128 + r.val; omega))

theorem share1_at {I : Ins Ideal} (hI : RealIns I) (r : Fin 64) (n : Fin 512) :
    (share1 I (ix4 ⟨0, by decide⟩ ⟨0, by decide⟩ r n) : EReal) = headRow I 0 ⟨64 + r.val, by omega⟩ n := by
  refine (raw1 (k0_pay25 I.x I.q) ones _ _ I.w r n).trans (Eq.trans ?_ (rawRow_eq hI 0 inb_S2x512x256_S1x512x256_0_0_0 ⟨64 + r.val, by omega⟩ n))
  exact congrArg (fun i => rawRow _ _ _ _ _ i n) (Fin.ext (by show 64 + r.val = 0 * 128 + (64 + r.val); omega))

theorem share2_at {I : Ins Ideal} (hI : RealIns I) (r : Fin 64) (n : Fin 512) :
    (share2 I (ix4 ⟨0, by decide⟩ ⟨0, by decide⟩ r n) : EReal) = headRow I 1 ⟨r.val, by omega⟩ n := by
  refine (raw2 (k0_pay25 I.x I.q) ones _ _ I.w r n).trans (Eq.trans ?_ (rawRow_eq hI 1 inb_S2x512x256_S1x512x256_1_0_0 ⟨r.val, by omega⟩ n))
  exact congrArg (fun i => rawRow _ _ _ _ _ i n) (Fin.ext (by show 128 + r.val = 1 * 128 + r.val; omega))

theorem share3_at {I : Ins Ideal} (hI : RealIns I) (r : Fin 64) (n : Fin 512) :
    (share3 I (ix4 ⟨0, by decide⟩ ⟨0, by decide⟩ r n) : EReal) = headRow I 1 ⟨64 + r.val, by omega⟩ n := by
  refine (raw3 (k0_pay25 I.x I.q) ones _ _ I.w r n).trans (Eq.trans ?_ (rawRow_eq hI 1 inb_S2x512x256_S1x512x256_1_0_0 ⟨64 + r.val, by omega⟩ n))
  exact congrArg (fun i => rawRow _ _ _ _ _ i n) (Fin.ext (by show 192 + r.val = 1 * 128 + (64 + r.val); omega))

/-! ## The two rounds -/

theorem pay38_at (a b : FVec Ideal S1x1x64x512 .bf16) (r : Fin 64) (n : Fin 512) :
    k0_pay38 (F := Ideal) a b (ix4 ⟨0, by decide⟩ ⟨0, by decide⟩ r n) = a (ix4 ⟨0, by decide⟩ ⟨0, by decide⟩ r n) + b (ix4 ⟨0, by decide⟩ ⟨0, by decide⟩ r n) := by
  pointwise [k0_pay38]

theorem pay43_at (a b : FVec Ideal S1x1x64x512 .bf16) (r : Fin 64) (n : Fin 512) :
    k0_pay43 (F := Ideal) a b (ix3 ⟨0, by decide⟩ r n) = a (ix4 ⟨0, by decide⟩ ⟨0, by decide⟩ r n) + b (ix4 ⟨0, by decide⟩ ⟨0, by decide⟩ r n) := by
  pointwise [k0_pay43]

/-- Both orders of the two partners reach every device once. -/
theorem rounds_sum (j j' : Fin 8) (h : (j.val < 2 ∨ 6 ≤ j.val) ↔ ¬ (j'.val < 2 ∨ 6 ≤ j'.val)) (a : Dev nD → EReal) (c : Dev nD) :
    (a c + a (peer j c)) + (a (peer j' c) + a (peer j (peer j' c))) = ∑ d : Dev nD, a d := by
  have e : ∑ d : Dev nD, a d = a 0 + a 1 + a 2 + a 3 := Fin.sum_univ_four a
  have q1 : p1 0 = 1 ∧ p1 1 = 0 ∧ p1 2 = 3 ∧ p1 3 = 2 := by decide
  have q2 : p2 0 = 3 ∧ p2 1 = 2 ∧ p2 2 = 1 ∧ p2 3 = 0 := by decide
  obtain ⟨r0, r1, r2, r3⟩ := q1
  obtain ⟨s0, s1, s2, s3⟩ := q2
  rw [e]
  unfold peer
  by_cases hj : j.val < 2 ∨ 6 ≤ j.val
  · have hj' := h.mp hj
    simp only [if_pos hj, if_neg hj']
    match c with
    | 0 => rw [r0, s0, r3]; ac_rfl
    | 1 => rw [r1, s1, r2]; ac_rfl
    | 2 => rw [r2, s2, r1]; ac_rfl
    | 3 => rw [r3, s3, r0]; ac_rfl
  · have hj' := not_not.mp (mt h.mpr hj)
    simp only [if_neg hj, if_pos hj']
    match c with
    | 0 => rw [r0, s0, s1]; ac_rfl
    | 1 => rw [r1, s1, s0]; ac_rfl
    | 2 => rw [r2, s2, s3]; ac_rfl
    | 3 => rw [r3, s3, s2]; ac_rfl

variable {In : Dev nD → Ins Ideal} (hIn : ∀ d, RealIns (In d))
include hIn

/-- Each chunk is the sum of the four devices' rows. -/
theorem chunk4_at (c : Dev nD) (r : Fin 64) (n : Fin 512) :
    (chunk In c 4 (ix3 ⟨0, by decide⟩ r n) : EReal) = ∑ d : Dev nD, headRow (In d) 0 ⟨r.val, by omega⟩ n := by
  refine (pay43_at _ _ r n).trans ?_
  refine (congrArg₂ (· + ·) (pay38_at (share0 (In c)) (share0 (In (peer 0 c))) r n) (pay38_at (share0 (In (peer 4 c))) (share0 (In (peer 0 (peer 4 c)))) r n)).trans ?_
  simp only [share0_at (hIn _)]
  exact rounds_sum 0 4 (by decide) (fun d => headRow (In d) 0 ⟨r.val, by omega⟩ n) c

theorem chunk5_at (c : Dev nD) (r : Fin 64) (n : Fin 512) :
    (chunk In c 5 (ix3 ⟨0, by decide⟩ r n) : EReal) = ∑ d : Dev nD, headRow (In d) 0 ⟨64 + r.val, by omega⟩ n := by
  refine (pay43_at _ _ r n).trans ?_
  refine (congrArg₂ (· + ·) (pay38_at (share1 (In c)) (share1 (In (peer 1 c))) r n) (pay38_at (share1 (In (peer 5 c))) (share1 (In (peer 1 (peer 5 c)))) r n)).trans ?_
  simp only [share1_at (hIn _)]
  exact rounds_sum 1 5 (by decide) (fun d => headRow (In d) 0 ⟨64 + r.val, by omega⟩ n) c

theorem chunk6_at (c : Dev nD) (r : Fin 64) (n : Fin 512) :
    (chunk In c 6 (ix3 ⟨0, by decide⟩ r n) : EReal) = ∑ d : Dev nD, headRow (In d) 1 ⟨r.val, by omega⟩ n := by
  refine (pay43_at _ _ r n).trans ?_
  refine (congrArg₂ (· + ·) (pay38_at (share2 (In c)) (share2 (In (peer 2 c))) r n) (pay38_at (share2 (In (peer 6 c))) (share2 (In (peer 2 (peer 6 c)))) r n)).trans ?_
  simp only [share2_at (hIn _)]
  exact rounds_sum 2 6 (by decide) (fun d => headRow (In d) 1 ⟨r.val, by omega⟩ n) c

theorem chunk7_at (c : Dev nD) (r : Fin 64) (n : Fin 512) :
    (chunk In c 7 (ix3 ⟨0, by decide⟩ r n) : EReal) = ∑ d : Dev nD, headRow (In d) 1 ⟨64 + r.val, by omega⟩ n := by
  refine (pay43_at _ _ r n).trans ?_
  refine (congrArg₂ (· + ·) (pay38_at (share3 (In c)) (share3 (In (peer 3 c))) r n) (pay38_at (share3 (In (peer 7 c))) (share3 (In (peer 3 (peer 7 c)))) r n)).trans ?_
  simp only [share3_at (hIn _)]
  exact rounds_sum 3 7 (by decide) (fun d => headRow (In d) 1 ⟨64 + r.val, by omega⟩ n) c

/-- Every element of the result, on every device. -/
theorem outVal_at (c : Dev nD) (b : Fin 2) (i : Fin 128) (n : Fin 512) :
    (outVal In c (ix3 b i n) : EReal) = ∑ d : Dev nD, headRow (In d) b i n := by
  have hin : inChunk (ix3 b i n) = ix3 (n0 := 1) (n1 := 64) (n2 := 512) ⟨0, by decide⟩ ⟨i.val % 64, by omega⟩ n := by
    funext a
    match a with
    | ⟨0, _⟩ => rfl
    | ⟨1, _⟩ => rfl
    | ⟨2, _⟩ => rfl
  have hch (j : Fin 8) (h : 4 + 2 * b.val + i.val / 64 = j.val) : chunkOf (ix3 b i n) = j := Fin.ext h
  show chunk In c (chunkOf (ix3 b i n)) (inChunk (ix3 b i n)) = _
  rw [hin]
  have hb : b = 0 ∨ b = 1 := by omega
  have hi : i.val / 64 = 0 ∨ i.val / 64 = 1 := by omega
  rcases hb with rfl | rfl <;> rcases hi with h | h
  · rw [hch 4 (by rw [h]; rfl)]
    refine (chunk4_at hIn c _ n).trans ?_
    have e : (⟨i.val % 64, by omega⟩ : Fin 128) = i := Fin.ext (by show i.val % 64 = i.val; omega)
    simp only [e]
  · rw [hch 5 (by rw [h]; rfl)]
    refine (chunk5_at hIn c _ n).trans ?_
    have e : (⟨64 + i.val % 64, by omega⟩ : Fin 128) = i := Fin.ext (by show 64 + i.val % 64 = i.val; omega)
    simp only [e]
  · rw [hch 6 (by rw [h]; rfl)]
    refine (chunk6_at hIn c _ n).trans ?_
    have e : (⟨i.val % 64, by omega⟩ : Fin 128) = i := Fin.ext (by show i.val % 64 = i.val; omega)
    simp only [e]
  · rw [hch 7 (by rw [h]; rfl)]
    refine (chunk7_at hIn c _ n).trans ?_
    have e : (⟨64 + i.val % 64, by omega⟩ : Fin 128) = i := Fin.ext (by show 64 + i.val % 64 = i.val; omega)
    simp only [e]

end Cert.KernelIdeal.Exchange

end
-- ==== Proof.HostValue.lean ====
module

public import proofs.«01_k».proof.Proof.Region
public import Idealize.ShloMosaic.Lib.Pointwise
public import Idealize.ShloMosaic.Lib.StableHlo.ReadAt

/-! What the host program hands to the kernel call on each device: the device's columns of the query weights, its rows of the
output weights, and its keys and values with the heads outermost. -/

@[expose] public section

noncomputable section

namespace Cert.KernelIdeal.Exchange

open Cert.KernelIdeal Cert.KernelIdeal.Gen
open Idealize.ShloMosaic
open Idealize.ShloMosaic.TcCoe
open Idealize.SL.Sem

variable (m : (ℓ : Loc nD τ sig) → Buf (Elt Ideal) ℓ) (c : Dev nD)

theorem inp_x : (inp m c).x = m ((c.tc : Thread nD τ).loc main_arg0) := V1_of m c main_arg0 (by decide)

theorem inp_k_at (b : Fin 2) (h : Fin 4) (j : Fin 128) (d : Fin 64) :
    (inp m c).k (ix4 b h j d) = (m ((c.tc : Thread nD τ).loc main_arg2) : FVec Ideal S2x128x4x64 .bf16) (ix4 b j h d) := by
  show StableHlo.after (hostOps0 c) (V0 m c) main_v15 (ix4 b h j d) = _
  after_reads_at

theorem inp_v_at (b : Fin 2) (h : Fin 4) (j : Fin 128) (d : Fin 64) :
    (inp m c).v (ix4 b h j d) = (m ((c.tc : Thread nD τ).loc main_arg3) : FVec Ideal S2x128x4x64 .bf16) (ix4 b j h d) := by
  show StableHlo.after (hostOps0 c) (V0 m c) main_v16 (ix4 b h j d) = _
  after_reads_at

/-- Where the device's columns of the query weights start. -/
theorem start_q : (StableHlo.upto (hostOps0 c) (V0 m c) 14 (Proc.tc.devRef main_v8) : IVec S_ 32) (Shape.Idx.first h_S_) = BitVec.ofNat 32 (c.val * 256) := by
  after_reads_at
  revert c
  decide +kernel

theorem start_q_zero : (StableHlo.upto (hostOps0 c) (V0 m c) 14 (Proc.tc.devRef main_c_4) : IVec S_ 32) (Shape.Idx.first h_S_) = 0#32 := by
  after_reads_at

/-- Where the device's rows of the output weights start. -/
theorem start_w : (StableHlo.upto (hostOps0 c) (V0 m c) 23 (Proc.tc.devRef main_v13) : IVec S_ 32) (Shape.Idx.first h_S_) = BitVec.ofNat 32 (c.val * 256) := by
  after_reads_at
  revert c
  decide +kernel

theorem start_w_zero : (StableHlo.upto (hostOps0 c) (V0 m c) 23 (Proc.tc.devRef main_c_8) : IVec S_ 32) (Shape.Idx.first h_S_) = 0#32 := by
  after_reads_at

theorem start_toInt (c : Dev nD) : (BitVec.ofNat 32 (c.val * 256)).toInt = ((c.val * 256 : ℕ) : ℤ) := by revert c; decide

theorem inp_q_at (a : Fin 512) (f : Fin 256) :
    (inp m c).q (ix2 a f) = (m ((c.tc : Thread nD τ).loc main_arg1) : FVec Ideal S512x1024 .bf16) (ix2 a ⟨c.val * 256 + f.val, by have := c.isLt; change c.val < 4 at this; omega⟩) := by
  have hc : c.val < 4 := c.isLt
  show StableHlo.after (hostOps0 c) (V0 m c) main_v9 (ix2 a f) = _
  after_reads_at
  refine congrArg (m ((c.tc : Thread nD τ).loc main_arg1)) (congrArg₂ ix2 (Fin.ext ?_) (Fin.ext ?_))
  · refine (congrArg (· + a.val) (Host.clampedStart_of_le _ _ _ 0 ?_ ?_)).trans (Nat.zero_add _)
    · exact congrArg BitVec.toInt (start_q_zero m c)
    · decide
  · refine congrArg (· + f.val) (Host.clampedStart_of_le _ _ _ (c.val * 256) ?_ ?_)
    · exact (congrArg BitVec.toInt (start_q m c)).trans (start_toInt c)
    · show c.val * 256 + 256 ≤ 1024
      omega

theorem inp_w_at (f : Fin 256) (n : Fin 512) :
    (inp m c).w (ix2 f n) = (m ((c.tc : Thread nD τ).loc main_arg4) : FVec Ideal S1024x512 .bf16) (ix2 ⟨c.val * 256 + f.val, by have := c.isLt; change c.val < 4 at this; omega⟩ n) := by
  have hc : c.val < 4 := c.isLt
  show StableHlo.after (hostOps0 c) (V0 m c) main_v14 (ix2 f n) = _
  after_reads_at
  refine congrArg (m ((c.tc : Thread nD τ).loc main_arg4)) (congrArg₂ ix2 (Fin.ext ?_) (Fin.ext ?_))
  · refine congrArg (· + f.val) (Host.clampedStart_of_le _ _ _ (c.val * 256) ?_ ?_)
    · exact (congrArg BitVec.toInt (start_w m c)).trans (start_toInt c)
    · show c.val * 256 + 256 ≤ 1024
      omega
  · refine (congrArg (· + n.val) (Host.clampedStart_of_le _ _ _ 0 ?_ ?_)).trans (Nat.zero_add _)
    · exact congrArg BitVec.toInt (start_w_zero m c)
    · decide

end Cert.KernelIdeal.Exchange

end
-- ==== Proof.Algebraic.lean ====
module

public import proofs.«01_k».proof.Defs
public import proofs.«01_k».proof.Proof.Gen.KernelIdeal
public import proofs.«01_k».proof.Proof.Gen.ReferenceIdeal
public import proofs.«01_k».proof.Proof.RefValue
public import proofs.«01_k».proof.Proof.OutValue
public import proofs.«01_k».proof.Proof.HostValue
public import proofs.«01_k».proof.Proof.Launch

/-! The value claim: the four devices' parts of the attention heads sum to the reference's result. -/

@[expose] public section

noncomputable section

namespace Cert.Proof

open Idealize.ShloMosaic Idealize.ShloMosaic.TcCoe Idealize.SL.Sem
open scoped BigOperators
open Cert.KernelIdeal.Exchange

/-- The side conditions of the precondition, over a device's blocks. -/
theorem preFacts : Cert.Pre_queries_keys_real_KernelIdeal.Facts := ⟨by decide, by decide, by decide⟩

/-- The side conditions of the precondition, over the whole arrays. -/
theorem preFactsRef : Cert.Pre_queries_keys_real_ReferenceIdeal.Facts := ⟨by decide, by decide, by decide⟩

/-! ## The precondition -/

theorem pos_inf : Ideal.ofBits .bf16 0x7F80#16 = ⊤ := by simp [Ideal.ofBits, Ideal.ieee]

theorem real_of_below {a : EReal} (h : Ideal.cmp .olt (max a (-a)) (Ideal.ofBits .bf16 0x7F80#16) = 1#1) : IsReal a := by
  rw [pos_inf] at h
  refine real_of_abs_lt ?_
  by_contra hn
  have : Ideal.cmp .olt (max a (-a)) ⊤ = 0#1 := by
    show BitVec.ofBool (decide (max a (-a) < ⊤)) = 0#1
    rw [decide_eq_false hn]
    rfl
  rw [this] at h
  exact absurd h (by decide)

section Values

variable (m : (ℓ : Loc Cert.KernelIdeal.nD Cert.KernelIdeal.τ Cert.KernelIdeal.sig) → Buf (Elt Ideal) ℓ)

theorem pre_x (h : Pre_KernelIdeal_queries_keys_real_KernelIdeal (hPre_queries_keys_real_KernelIdeal := preFacts) m) (c : Dev Cert.KernelIdeal.nD) (i : Cert.KernelIdeal.S2x128x512.Idx) :
    IsReal (m ((c.tc : Thread Cert.KernelIdeal.nD Cert.KernelIdeal.τ).loc Cert.KernelIdeal.main_arg0) i) := real_of_below (congrFun (h c).1 i)

theorem pre_q (h : Pre_KernelIdeal_queries_keys_real_KernelIdeal (hPre_queries_keys_real_KernelIdeal := preFacts) m) (c : Dev Cert.KernelIdeal.nD) (i : Cert.KernelIdeal.S512x1024.Idx) :
    IsReal (m ((c.tc : Thread Cert.KernelIdeal.nD Cert.KernelIdeal.τ).loc Cert.KernelIdeal.main_arg1) i) := real_of_below (congrFun (h c).2.1 i)

theorem pre_k (h : Pre_KernelIdeal_queries_keys_real_KernelIdeal (hPre_queries_keys_real_KernelIdeal := preFacts) m) (c : Dev Cert.KernelIdeal.nD) (i : Cert.KernelIdeal.S2x128x4x64.Idx) :
    IsReal (m ((c.tc : Thread Cert.KernelIdeal.nD Cert.KernelIdeal.τ).loc Cert.KernelIdeal.main_arg2) i) := real_of_below (congrFun (h c).2.2 i)

/-! ## The devices' heads -/

/-- A device's block of an array cut by head, element by element. -/
theorem block_at (c : Fin 4) (v : FVec Ideal ⟨4, ![2, 128, 16, 64]⟩ .bf16) (b : Fin 2) (j : Fin 128) (h : Fin 4) (d : Fin 64) :
    Layout.block ⟨4, ![2, 128, 4, 64]⟩ ⟨4, ![2, 128, 16, 64]⟩ 2 4 c v (by decide) (ix4 b j h d) = v (ix4 b j ⟨c.val * 4 + h.val, by omega⟩ d) := by
  rw [Layout.block_apply]
  refine congrArg v (funext fun a => Fin.ext ?_)
  match a with
  | ⟨0, _⟩ => rfl
  | ⟨1, _⟩ => rfl
  | ⟨2, _⟩ => rfl
  | ⟨3, _⟩ => rfl

/-- The arrays a device holds its part of. -/
structure Holds (c : Dev Cert.KernelIdeal.nD) (x : FVec Ideal Cert.ReferenceIdeal.S2x128x512 .bf16) (wq : FVec Ideal Cert.ReferenceIdeal.S512x1024 .bf16)
    (k v : FVec Ideal Cert.ReferenceIdeal.S2x128x16x64 .bf16) (wo : FVec Ideal Cert.ReferenceIdeal.S1024x512 .bf16) : Prop where
  x : m ((c.tc : Thread Cert.KernelIdeal.nD Cert.KernelIdeal.τ).loc Cert.KernelIdeal.main_arg0) = x
  q : m ((c.tc : Thread Cert.KernelIdeal.nD Cert.KernelIdeal.τ).loc Cert.KernelIdeal.main_arg1) = wq
  k : m ((c.tc : Thread Cert.KernelIdeal.nD Cert.KernelIdeal.τ).loc Cert.KernelIdeal.main_arg2) = Layout.block ⟨4, ![2, 128, 4, 64]⟩ ⟨4, ![2, 128, 16, 64]⟩ 2 4 c k
  v : m ((c.tc : Thread Cert.KernelIdeal.nD Cert.KernelIdeal.τ).loc Cert.KernelIdeal.main_arg3) = Layout.block ⟨4, ![2, 128, 4, 64]⟩ ⟨4, ![2, 128, 16, 64]⟩ 2 4 c v
  w : m ((c.tc : Thread Cert.KernelIdeal.nD Cert.KernelIdeal.τ).loc Cert.KernelIdeal.main_arg4) = wo

variable {m} {x : FVec Ideal Cert.ReferenceIdeal.S2x128x512 .bf16} {wq : FVec Ideal Cert.ReferenceIdeal.S512x1024 .bf16}
  {k v : FVec Ideal Cert.ReferenceIdeal.S2x128x16x64 .bf16} {wo : FVec Ideal Cert.ReferenceIdeal.S1024x512 .bf16}

/-- A device's score in its head `h` is the reference's in head `4 c + h`. -/
theorem score_eq {c : Fin 4} (H : Holds m c x wq k v wo) (b : Fin 2) (h : Fin 4) (i j : Fin 128) :
    headScore (inp m c) b h i j = Cert.ReferenceIdeal.Value.score x wq k b ⟨c.val * 4 + h.val, by omega⟩ i j := by
  unfold headScore Cert.ReferenceIdeal.Value.score
  refine congrArg (· * Ideal.ofBits .f32 0x3E000000#32) (Finset.sum_congr rfl fun d _ => ?_)
  refine congrArg₂ (· * ·) (Finset.sum_congr rfl fun n _ => congrArg₂ (· * ·) ?_ ?_) ?_
  · rw [inp_x, H.x]
  · rw [inp_q_at, H.q]
    exact congrArg wq (congrArg (ix2 n) (Fin.ext (by show c.val * 256 + (h.val * 64 + d.val) = (c.val * 4 + h.val) * 64 + d.val; omega)))
  · rw [inp_k_at, H.k]
    exact block_at c k b j h d

/-- The four devices' parts of a row sum to the reference's row. -/
theorem rows_sum (H : ∀ c : Fin 4, Holds m c x wq k v wo) (b : Fin 2) (i : Fin 128) (n : Fin 512) :
    (∑ c : Fin 4, headRow (inp m c) b i n)
      = ∑ f : Fin 1024, mean (Cert.ReferenceIdeal.Value.score x wq k b ⟨f.val / 64, by omega⟩ i) (fun j : Fin 128 => v (ix4 b j ⟨f.val / 64, by omega⟩ ⟨f.val % 64, by omega⟩)) * wo (ix2 f n) := by
  rw [sum_split (n := 4) (m := 256) rfl]
  refine Finset.sum_congr rfl fun c _ => ?_
  unfold headRow
  refine Finset.sum_congr rfl fun f _ => congrArg₂ (· * ·) (congrArg₂ mean ?_ ?_) ?_
  · funext j
    rw [score_eq (H c)]
    exact congrArg (fun h => Cert.ReferenceIdeal.Value.score x wq k b h i j) (Fin.ext (by show c.val * 4 + f.val / 64 = (c.val * 256 + f.val) / 64; omega))
  · funext j
    rw [inp_v_at, (H c).v]
    refine (block_at c v b j _ _).trans (congrArg₂ (fun h d => v (ix4 b j h d)) (Fin.ext ?_) (Fin.ext ?_))
    · show c.val * 4 + f.val / 64 = (c.val * 256 + f.val) / 64; omega
    · show f.val % 64 = (c.val * 256 + f.val) % 64; omega
  · rw [inp_w_at, (H c).w]

/-- Every element of the keys is in some device's block. -/
theorem keys_real (H : ∀ c : Fin 4, Holds m c x wq k v wo) (h : Pre_KernelIdeal_queries_keys_real_KernelIdeal (hPre_queries_keys_real_KernelIdeal := preFacts) m)
    (i : Cert.ReferenceIdeal.S2x128x16x64.Idx) : IsReal (k i) := by
  have h2 : (i 2).val < 16 := (i 2).isLt
  have e := pre_k m h ⟨(i 2).val / 4, by show (i 2).val / 4 < 4; omega⟩ (ix4 (n0 := 2) (n1 := 128) (n2 := 4) (n3 := 64) (i 0) (i 1) ⟨(i 2).val % 4, by omega⟩ (i 3))
  rw [(H ⟨(i 2).val / 4, by omega⟩).k] at e
  have e' : IsReal (k (ix4 (n0 := 2) (n1 := 128) (n2 := 16) (n3 := 64) (i 0) (i 1) ⟨(i 2).val / 4 * 4 + (i 2).val % 4, by omega⟩ (i 3))) := by
    rw [← block_at ⟨(i 2).val / 4, by omega⟩ k (i 0) (i 1) ⟨(i 2).val % 4, by omega⟩ (i 3)]
    exact e
  have hi : ix4 (n0 := 2) (n1 := 128) (n2 := 16) (n3 := 64) (i 0) (i 1) ⟨(i 2).val / 4 * 4 + (i 2).val % 4, by omega⟩ (i 3) = i := by
    funext a
    apply Fin.ext
    match a with
    | ⟨0, _⟩ => rfl
    | ⟨1, _⟩ => rfl
    | ⟨2, _⟩ => show (i 2).val / 4 * 4 + (i 2).val % 4 = (i 2).val; omega
    | ⟨3, _⟩ => rfl
  rw [← hi]
  exact e'

/-- What the host program hands to the call is real where the arguments are. -/
theorem inp_real (h : Pre_KernelIdeal_queries_keys_real_KernelIdeal (hPre_queries_keys_real_KernelIdeal := preFacts) m) (c : Fin 4) : RealIns (inp m c) where
  x i := by rw [inp_x]; exact pre_x m h c i
  q i := by
    have hi : i = ix2 (n0 := 512) (n1 := 256) (i 0) (i 1) := by
      funext a
      match a with
      | ⟨0, _⟩ => rfl
      | ⟨1, _⟩ => rfl
    rw [hi]
    refine Eq.mpr (congrArg IsReal (inp_q_at m c (i 0) (i 1))) (pre_q m h c _)
  k i := by
    have hi : i = ix4 (n0 := 2) (n1 := 4) (n2 := 128) (n3 := 64) (i 0) (i 1) (i 2) (i 3) := by
      funext a
      match a with
      | ⟨0, _⟩ => rfl
      | ⟨1, _⟩ => rfl
      | ⟨2, _⟩ => rfl
      | ⟨3, _⟩ => rfl
    rw [hi]
    refine Eq.mpr (congrArg IsReal (inp_k_at m c (i 0) (i 1) (i 2) (i 3))) (pre_k m h c _)

open Cert.ReferenceIdeal.Value in
/-- Every device's result is the reference's. -/
theorem out_eq (H : ∀ c : Fin 4, Holds m c x wq k v wo) (h : Pre_KernelIdeal_queries_keys_real_KernelIdeal (hPre_queries_keys_real_KernelIdeal := preFacts) m) (c : Fin 4) :
    outVal (inp m) c = resultT (weightsT (expsT (scoresT (queriesT x wq) k))) v wo := by
  funext i
  have hi : i = ix3 (n0 := 2) (n1 := 128) (n2 := 512) (i 0) (i 1) (i 2) := by
    funext a
    match a with
    | ⟨0, _⟩ => rfl
    | ⟨1, _⟩ => rfl
    | ⟨2, _⟩ => rfl
  rw [hi]
  refine (outVal_at (inp_real h) c (i 0) (i 1) (i 2)).trans ((rows_sum H (i 0) (i 1) (i 2)).trans (stages_apply v wo ?_ ?_ (keys_real H h) (i 0) (i 1) (i 2)).symm)
  · intro j
    have := pre_x m h 0 j
    rw [(H 0).x] at this
    exact this
  · intro j
    have := pre_q m h 0 j
    rw [(H 0).q] at this
    exact this

end Values

/-- The value claim. -/
theorem algebraic : Cert.algebraic_KernelIdeal_ReferenceIdeal_pre_queries_keys_real_KernelIdeal (hKernelIdeal := Cert.KernelIdeal.Gen.facts)
    (hReferenceIdeal := Cert.ReferenceIdeal.Gen.facts) (hPre_queries_keys_real_KernelIdeal := preFacts) := fun m g m' g' hpre hargs => by
  have H (c : Fin 4) := (⟨(hargs c).1, (hargs c).2.1, (hargs c).2.2.1, (hargs c).2.2.2.1, (hargs c).2.2.2.2⟩ : Holds m c _ _ _ _ _)
  refine ⟨Cert.ReferenceIdeal.Value.res_main_v40 m' 0, ?_, ?_⟩
  · refine (θ_run Cert.KernelIdeal.defs _ _).mono (fun r h c => ⟨((h.1 c).2.trans (out_eq H hpre c)).trans ?_, (h.1 c).1⟩) (run_main (F := Ideal) m g)
    exact (Cert.ReferenceIdeal.Value.result_eq m' 0).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of the certificate: the three programs' frames, with and without the precondition, the idealization's
preservation, which rewrites nothing, and the value of the result. -/
theorem claim : Cert.Claim :=
  ⟨Cert.Kernel.Gen.facts, Cert.KernelIdeal.Gen.facts, Cert.ReferenceIdeal.Gen.facts, preFacts, preFactsRef,
    frame_kernel, frame_ideal, fun m g _ => frame_ideal m g True.intro, frame_reference, fun m g _ => frame_reference m g True.intro, True.intro, algebraic⟩

end Cert.Proof

end
